-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2408x1024 : Shape := ⟨2, ![2408, 1024]⟩
abbrev S2352x1024 : Shape := ⟨2, ![2352, 1024]⟩
abbrev S8 : Shape := ⟨1, ![8]⟩
abbrev S1 : Shape := ⟨1, ![1]⟩
abbrev S_ : Shape := ⟨0, ![]⟩
abbrev S1376x1024 : Shape := ⟨2, ![1376, 1024]⟩
abbrev S688x1024 : Shape := ⟨2, ![688, 1024]⟩
abbrev S1344x1024 : Shape := ⟨2, ![1344, 1024]⟩
abbrev S672x1024 : Shape := ⟨2, ![672, 1024]⟩
abbrev S344x1024 : Shape := ⟨2, ![344, 1024]⟩
abbrev S336x1024 : Shape := ⟨2, ![336, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S8192x1024, .f32⟩
  | .local _ .vmem, ⟨1, _⟩ => ⟨S2408x1024, .f32⟩
  | .local _ .vmem, ⟨2, _⟩ => ⟨S2408x1024, .f32⟩
  | .local _ .vmem, ⟨3, _⟩ => ⟨S2352x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_31 : BitVec 32 := 4#32
  let v76 : BitVec 32 := Scalar.muli v29 c4_i32_31
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_32 : BitVec 32 := 2#32
  let v77 : BitVec 32 := Scalar.muli v46 c2_i32_32
  let c1_i32_30 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v75 : BitVec 32 := Scalar.subi c1_i32_30 v74
  let v78 : BitVec 32 := Scalar.xori v75 v46
  let v79 : BitVec 32 := Scalar.addi v77 v78
  let v80 : BitVec 32 := Scalar.addi v76 v79
  let c1_i32_40 : BitVec 32 := 1#32
  let v94 : BitVec 32 := Scalar.muli v80 c1_i32_40
  let v95 : BitVec 32 := Scalar.addi c0_i32_41 v94
  v95.toNat
def k0_dev2 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_34 : BitVec 32 := 4#32
  let v82 : BitVec 32 := Scalar.muli v29 c4_i32_34
  let c1_i32_33 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v81 : BitVec 32 := Scalar.subi c1_i32_33 v46
  let c2_i32_35 : BitVec 32 := 2#32
  let v83 : BitVec 32 := Scalar.muli v81 c2_i32_35
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v84 : BitVec 32 := Scalar.xori v74 v81
  let v85 : BitVec 32 := Scalar.addi v83 v84
  let v86 : BitVec 32 := Scalar.addi v82 v85
  let c1_i32_43 : BitVec 32 := 1#32
  let v96 : BitVec 32 := Scalar.muli v86 c1_i32_43
  let v97 : BitVec 32 := Scalar.addi c0_i32_44 v96
  v97.toNat
def k0_dev3 (d0 : Dev nD) : Nat :=
  let c0_i32_47 : BitVec 32 := 0#32
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v87 : BitVec 32 := Scalar.subi c1_i32_36 v29
  let c4_i32_37 : BitVec 32 := 4#32
  let v88 : BitVec 32 := Scalar.muli v87 c4_i32_37
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_38 : BitVec 32 := 2#32
  let v89 : BitVec 32 := Scalar.muli v46 c2_i32_38
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v90 : BitVec 32 := Scalar.xori v74 v46
  let v91 : BitVec 32 := Scalar.addi v89 v90
  let v92 : BitVec 32 := Scalar.addi v88 v91
  let c1_i32_46 : BitVec 32 := 1#32
  let v98 : BitVec 32 := Scalar.muli v92 c1_i32_46
  let v99 : BitVec 32 := Scalar.addi c0_i32_47 v98
  v99.toNat
def k0_off1 (d0 : Dev nD) : Fin 2 → Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c1376_i32 : BitVec 32 := 1376#32
  let v100 : BitVec 32 := Scalar.muli v74 c1376_i32
  let v101 : BitVec 32 := Scalar.addi c0_i32_48 v100
  let c0_i32_52 : BitVec 32 := 0#32
  ![v101.toNat, 0]
def k0_off2 (d0 : Dev nD) : Fin 2 → Nat :=
  let c0_i32_55 : BitVec 32 := 0#32
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v106 : BitVec 32 := Scalar.subi c1_i32_53 v74
  let c1376_i32_54 : BitVec 32 := 1376#32
  let v107 : BitVec 32 := Scalar.muli v106 c1376_i32_54
  let v108 : BitVec 32 := Scalar.addi c0_i32_55 v107
  let c0_i32_62 : BitVec 32 := 0#32
  ![v108.toNat, 0]
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_31 : BitVec 32 := 4#32
  let v76 : BitVec 32 := Scalar.muli v29 c4_i32_31
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_32 : BitVec 32 := 2#32
  let v77 : BitVec 32 := Scalar.muli v46 c2_i32_32
  let c1_i32_30 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v75 : BitVec 32 := Scalar.subi c1_i32_30 v74
  let v78 : BitVec 32 := Scalar.xori v75 v46
  let v79 : BitVec 32 := Scalar.addi v77 v78
  let v80 : BitVec 32 := Scalar.addi v76 v79
  let c1_i32_58 : BitVec 32 := 1#32
  let v109 : BitVec 32 := Scalar.muli v80 c1_i32_58
  let v110 : BitVec 32 := Scalar.addi c0_i32_59 v109
  v110.toNat
def k0_off3 (d0 : Dev nD) : Fin 2 → Nat :=
  let c0_i32_55 : BitVec 32 := 0#32
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v106 : BitVec 32 := Scalar.subi c1_i32_53 v74
  let c1376_i32_54 : BitVec 32 := 1376#32
  let v107 : BitVec 32 := Scalar.muli v106 c1376_i32_54
  let v108 : BitVec 32 := Scalar.addi c0_i32_55 v107
  let c688_i32 : BitVec 32 := 688#32
  let v117 : BitVec 32 := Scalar.addi v108 c688_i32
  let c0_i32_68 : BitVec 32 := 0#32
  ![v117.toNat, 0]
def k0_dev5 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_31 : BitVec 32 := 4#32
  let v76 : BitVec 32 := Scalar.muli v29 c4_i32_31
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_32 : BitVec 32 := 2#32
  let v77 : BitVec 32 := Scalar.muli v46 c2_i32_32
  let c1_i32_30 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v75 : BitVec 32 := Scalar.subi c1_i32_30 v74
  let v78 : BitVec 32 := Scalar.xori v75 v46
  let v79 : BitVec 32 := Scalar.addi v77 v78
  let v80 : BitVec 32 := Scalar.addi v76 v79
  let c1_i32_64 : BitVec 32 := 1#32
  let v118 : BitVec 32 := Scalar.muli v80 c1_i32_64
  let v119 : BitVec 32 := Scalar.addi c0_i32_65 v118
  v119.toNat
def k0_off4 (d0 : Dev nD) : Fin 2 → Nat :=
  let c2752_i32 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c1376_i32_69 : BitVec 32 := 1376#32
  let v126 : BitVec 32 := Scalar.muli v46 c1376_i32_69
  let v127 : BitVec 32 := Scalar.addi c2752_i32 v126
  let c0_i32_73 : BitVec 32 := 0#32
  ![v127.toNat, 0]
def k0_off5 (d0 : Dev nD) : Fin 2 → Nat :=
  let c2752_i32_76 : BitVec 32 := 2752#32
  let c1_i32_74 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v132 : BitVec 32 := Scalar.subi c1_i32_74 v46
  let c1376_i32_75 : BitVec 32 := 1376#32
  let v133 : BitVec 32 := Scalar.muli v132 c1376_i32_75
  let v134 : BitVec 32 := Scalar.addi c2752_i32_76 v133
  let c0_i32_83 : BitVec 32 := 0#32
  ![v134.toNat, 0]
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_34 : BitVec 32 := 4#32
  let v82 : BitVec 32 := Scalar.muli v29 c4_i32_34
  let c1_i32_33 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v81 : BitVec 32 := Scalar.subi c1_i32_33 v46
  let c2_i32_35 : BitVec 32 := 2#32
  let v83 : BitVec 32 := Scalar.muli v81 c2_i32_35
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v84 : BitVec 32 := Scalar.xori v74 v81
  let v85 : BitVec 32 := Scalar.addi v83 v84
  let v86 : BitVec 32 := Scalar.addi v82 v85
  let c1_i32_79 : BitVec 32 := 1#32
  let v135 : BitVec 32 := Scalar.muli v86 c1_i32_79
  let v136 : BitVec 32 := Scalar.addi c0_i32_80 v135
  v136.toNat
def k0_off6 (d0 : Dev nD) : Fin 2 → Nat :=
  let c2752_i32_76 : BitVec 32 := 2752#32
  let c1_i32_74 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v132 : BitVec 32 := Scalar.subi c1_i32_74 v46
  let c1376_i32_75 : BitVec 32 := 1376#32
  let v133 : BitVec 32 := Scalar.muli v132 c1376_i32_75
  let v134 : BitVec 32 := Scalar.addi c2752_i32_76 v133
  let c688_i32_84 : BitVec 32 := 688#32
  let v143 : BitVec 32 := Scalar.addi v134 c688_i32_84
  let c0_i32_91 : BitVec 32 := 0#32
  ![v143.toNat, 0]
def k0_dev7 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_34 : BitVec 32 := 4#32
  let v82 : BitVec 32 := Scalar.muli v29 c4_i32_34
  let c1_i32_33 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v81 : BitVec 32 := Scalar.subi c1_i32_33 v46
  let c2_i32_35 : BitVec 32 := 2#32
  let v83 : BitVec 32 := Scalar.muli v81 c2_i32_35
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v84 : BitVec 32 := Scalar.xori v74 v81
  let v85 : BitVec 32 := Scalar.addi v83 v84
  let v86 : BitVec 32 := Scalar.addi v82 v85
  let c1_i32_87 : BitVec 32 := 1#32
  let v144 : BitVec 32 := Scalar.muli v86 c1_i32_87
  let v145 : BitVec 32 := Scalar.addi c0_i32_88 v144
  v145.toNat
def k0_off7 (d0 : Dev nD) : Fin 2 → Nat :=
  let c5504_i32 : BitVec 32 := 5504#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1344_i32 : BitVec 32 := 1344#32
  let v152 : BitVec 32 := Scalar.muli v29 c1344_i32
  let v153 : BitVec 32 := Scalar.addi c5504_i32 v152
  let c0_i32_95 : BitVec 32 := 0#32
  ![v153.toNat, 0]
def k0_off8 (d0 : Dev nD) : Fin 2 → Nat :=
  let c5504_i32_98 : BitVec 32 := 5504#32
  let c1_i32_96 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v158 : BitVec 32 := Scalar.subi c1_i32_96 v29
  let c1344_i32_97 : BitVec 32 := 1344#32
  let v159 : BitVec 32 := Scalar.muli v158 c1344_i32_97
  let v160 : BitVec 32 := Scalar.addi c5504_i32_98 v159
  let c0_i32_105 : BitVec 32 := 0#32
  ![v160.toNat, 0]
def k0_dev8 (d0 : Dev nD) : Nat :=
  let c0_i32_102 : BitVec 32 := 0#32
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v87 : BitVec 32 := Scalar.subi c1_i32_36 v29
  let c4_i32_37 : BitVec 32 := 4#32
  let v88 : BitVec 32 := Scalar.muli v87 c4_i32_37
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_38 : BitVec 32 := 2#32
  let v89 : BitVec 32 := Scalar.muli v46 c2_i32_38
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v90 : BitVec 32 := Scalar.xori v74 v46
  let v91 : BitVec 32 := Scalar.addi v89 v90
  let v92 : BitVec 32 := Scalar.addi v88 v91
  let c1_i32_101 : BitVec 32 := 1#32
  let v161 : BitVec 32 := Scalar.muli v92 c1_i32_101
  let v162 : BitVec 32 := Scalar.addi c0_i32_102 v161
  v162.toNat
def k0_off9 (d0 : Dev nD) : Fin 2 → Nat :=
  let c5504_i32_98 : BitVec 32 := 5504#32
  let c1_i32_96 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v158 : BitVec 32 := Scalar.subi c1_i32_96 v29
  let c1344_i32_97 : BitVec 32 := 1344#32
  let v159 : BitVec 32 := Scalar.muli v158 c1344_i32_97
  let v160 : BitVec 32 := Scalar.addi c5504_i32_98 v159
  let c672_i32 : BitVec 32 := 672#32
  let v169 : BitVec 32 := Scalar.addi v160 c672_i32
  let c0_i32_112 : BitVec 32 := 0#32
  ![v169.toNat, 0]
def k0_dev9 (d0 : Dev nD) : Nat :=
  let c0_i32_109 : BitVec 32 := 0#32
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v87 : BitVec 32 := Scalar.subi c1_i32_36 v29
  let c4_i32_37 : BitVec 32 := 4#32
  let v88 : BitVec 32 := Scalar.muli v87 c4_i32_37
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_38 : BitVec 32 := 2#32
  let v89 : BitVec 32 := Scalar.muli v46 c2_i32_38
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v90 : BitVec 32 := Scalar.xori v74 v46
  let v91 : BitVec 32 := Scalar.addi v89 v90
  let v92 : BitVec 32 := Scalar.addi v88 v91
  let c1_i32_108 : BitVec 32 := 1#32
  let v170 : BitVec 32 := Scalar.muli v92 c1_i32_108
  let v171 : BitVec 32 := Scalar.addi c0_i32_109 v170
  v171.toNat
def k0_off10 (d0 : Dev nD) : Fin 2 → Nat :=
  let c0_i32_208 : BitVec 32 := 0#32
  let c0_i32_209 : BitVec 32 := 0#32
  let v264 : BitVec 32 := Scalar.addi c0_i32_208 c0_i32_209
  let c1_i32_210 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v265 : BitVec 32 := Scalar.subi c1_i32_210 v46
  let c688_i32_211 : BitVec 32 := 688#32
  let v266 : BitVec 32 := Scalar.muli v265 c688_i32_211
  let v267 : BitVec 32 := Scalar.addi v264 v266
  let c0_i32_218 : BitVec 32 := 0#32
  ![v267.toNat, 0]
def k0_dev10 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_34 : BitVec 32 := 4#32
  let v82 : BitVec 32 := Scalar.muli v29 c4_i32_34
  let c1_i32_33 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v81 : BitVec 32 := Scalar.subi c1_i32_33 v46
  let c2_i32_35 : BitVec 32 := 2#32
  let v83 : BitVec 32 := Scalar.muli v81 c2_i32_35
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v84 : BitVec 32 := Scalar.xori v74 v81
  let v85 : BitVec 32 := Scalar.addi v83 v84
  let v86 : BitVec 32 := Scalar.addi v82 v85
  let c1_i32_214 : BitVec 32 := 1#32
  let v268 : BitVec 32 := Scalar.muli v86 c1_i32_214
  let v269 : BitVec 32 := Scalar.addi c0_i32_215 v268
  v269.toNat
def k0_off11 (d0 : Dev nD) : Fin 2 → Nat :=
  let c2752_i32_233 : BitVec 32 := 2752#32
  let c0_i32_234 : BitVec 32 := 0#32
  let v286 : BitVec 32 := Scalar.addi c2752_i32_233 c0_i32_234
  let c1_i32_235 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v287 : BitVec 32 := Scalar.subi c1_i32_235 v29
  let c688_i32_236 : BitVec 32 := 688#32
  let v288 : BitVec 32 := Scalar.muli v287 c688_i32_236
  let v289 : BitVec 32 := Scalar.addi v286 v288
  let c0_i32_243 : BitVec 32 := 0#32
  ![v289.toNat, 0]
def k0_dev11 (d0 : Dev nD) : Nat :=
  let c0_i32_240 : BitVec 32 := 0#32
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v87 : BitVec 32 := Scalar.subi c1_i32_36 v29
  let c4_i32_37 : BitVec 32 := 4#32
  let v88 : BitVec 32 := Scalar.muli v87 c4_i32_37
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_38 : BitVec 32 := 2#32
  let v89 : BitVec 32 := Scalar.muli v46 c2_i32_38
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v90 : BitVec 32 := Scalar.xori v74 v46
  let v91 : BitVec 32 := Scalar.addi v89 v90
  let v92 : BitVec 32 := Scalar.addi v88 v91
  let c1_i32_239 : BitVec 32 := 1#32
  let v290 : BitVec 32 := Scalar.muli v92 c1_i32_239
  let v291 : BitVec 32 := Scalar.addi c0_i32_240 v290
  v291.toNat
def k0_off12 (d0 : Dev nD) : Fin 2 → Nat :=
  let c5504_i32_258 : BitVec 32 := 5504#32
  let c0_i32_259 : BitVec 32 := 0#32
  let v308 : BitVec 32 := Scalar.addi c5504_i32_258 c0_i32_259
  let c1_i32_260 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v309 : BitVec 32 := Scalar.subi c1_i32_260 v74
  let c672_i32_261 : BitVec 32 := 672#32
  let v310 : BitVec 32 := Scalar.muli v309 c672_i32_261
  let v311 : BitVec 32 := Scalar.addi v308 v310
  let c0_i32_268 : BitVec 32 := 0#32
  ![v311.toNat, 0]
def k0_dev12 (d0 : Dev nD) : Nat :=
  let c0_i32_265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_31 : BitVec 32 := 4#32
  let v76 : BitVec 32 := Scalar.muli v29 c4_i32_31
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_32 : BitVec 32 := 2#32
  let v77 : BitVec 32 := Scalar.muli v46 c2_i32_32
  let c1_i32_30 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v75 : BitVec 32 := Scalar.subi c1_i32_30 v74
  let v78 : BitVec 32 := Scalar.xori v75 v46
  let v79 : BitVec 32 := Scalar.addi v77 v78
  let v80 : BitVec 32 := Scalar.addi v76 v79
  let c1_i32_264 : BitVec 32 := 1#32
  let v312 : BitVec 32 := Scalar.muli v80 c1_i32_264
  let v313 : BitVec 32 := Scalar.addi c0_i32_265 v312
  v313.toNat
def k0_off13 (d0 : Dev nD) : Fin 2 → Nat :=
  let c0_i32_278 : BitVec 32 := 0#32
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c688_i32_219 : BitVec 32 := 688#32
  let v276 : BitVec 32 := Scalar.muli v46 c688_i32_219
  let v277 : BitVec 32 := Scalar.addi c0_i32_220 v276
  let v328 : BitVec 32 := Scalar.addi c0_i32_278 v277
  let v329 : Index := Scalar.indexCast v328
  let c0_279 : Index := 0#32
  ![v329.toNat, 0]
def k0_off14 (d0 : Dev nD) : Fin 2 → Nat :=
  let c2752_i32_290 : BitVec 32 := 2752#32
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c688_i32_244 : BitVec 32 := 688#32
  let v298 : BitVec 32 := Scalar.muli v29 c688_i32_244
  let v299 : BitVec 32 := Scalar.addi c0_i32_245 v298
  let v343 : BitVec 32 := Scalar.addi c2752_i32_290 v299
  let v344 : Index := Scalar.indexCast v343
  let c0_291 : Index := 0#32
  ![v344.toNat, 0]
def k0_off15 (d0 : Dev nD) : Fin 2 → Nat :=
  let c5504_i32_303 : BitVec 32 := 5504#32
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c672_i32_269 : BitVec 32 := 672#32
  let v320 : BitVec 32 := Scalar.muli v74 c672_i32_269
  let v321 : BitVec 32 := Scalar.addi c0_i32_270 v320
  let v358 : BitVec 32 := Scalar.addi c5504_i32_303 v321
  let v359 : Index := Scalar.indexCast v358
  let c0_304 : Index := 0#32
  ![v359.toNat, 0]
def k0_off16 (d0 : Dev nD) : Fin 2 → Nat :=
  let c0_i32_314 : BitVec 32 := 0#32
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c688_i32_219 : BitVec 32 := 688#32
  let v276 : BitVec 32 := Scalar.muli v46 c688_i32_219
  let v277 : BitVec 32 := Scalar.addi c0_i32_220 v276
  let v371 : BitVec 32 := Scalar.addi c0_i32_314 v277
  let c1_i32_315 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v372 : BitVec 32 := Scalar.subi c1_i32_315 v29
  let c344_i32 : BitVec 32 := 344#32
  let v373 : BitVec 32 := Scalar.muli v372 c344_i32
  let v374 : BitVec 32 := Scalar.addi v371 v373
  let c0_i32_321 : BitVec 32 := 0#32
  ![v374.toNat, 0]
def k0_dev13 (d0 : Dev nD) : Nat :=
  let c0_i32_319 : BitVec 32 := 0#32
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v87 : BitVec 32 := Scalar.subi c1_i32_36 v29
  let c4_i32_37 : BitVec 32 := 4#32
  let v88 : BitVec 32 := Scalar.muli v87 c4_i32_37
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_38 : BitVec 32 := 2#32
  let v89 : BitVec 32 := Scalar.muli v46 c2_i32_38
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v90 : BitVec 32 := Scalar.xori v74 v46
  let v91 : BitVec 32 := Scalar.addi v89 v90
  let v92 : BitVec 32 := Scalar.addi v88 v91
  let c1_i32_318 : BitVec 32 := 1#32
  let v375 : BitVec 32 := Scalar.muli v92 c1_i32_318
  let v376 : BitVec 32 := Scalar.addi c0_i32_319 v375
  v376.toNat
def k0_off17 (d0 : Dev nD) : Fin 2 → Nat :=
  let c2752_i32_329 : BitVec 32 := 2752#32
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c688_i32_244 : BitVec 32 := 688#32
  let v298 : BitVec 32 := Scalar.muli v29 c688_i32_244
  let v299 : BitVec 32 := Scalar.addi c0_i32_245 v298
  let v389 : BitVec 32 := Scalar.addi c2752_i32_329 v299
  let c1_i32_330 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v390 : BitVec 32 := Scalar.subi c1_i32_330 v74
  let c344_i32_331 : BitVec 32 := 344#32
  let v391 : BitVec 32 := Scalar.muli v390 c344_i32_331
  let v392 : BitVec 32 := Scalar.addi v389 v391
  let c0_i32_338 : BitVec 32 := 0#32
  ![v392.toNat, 0]
def k0_dev14 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_31 : BitVec 32 := 4#32
  let v76 : BitVec 32 := Scalar.muli v29 c4_i32_31
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_32 : BitVec 32 := 2#32
  let v77 : BitVec 32 := Scalar.muli v46 c2_i32_32
  let c1_i32_30 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v75 : BitVec 32 := Scalar.subi c1_i32_30 v74
  let v78 : BitVec 32 := Scalar.xori v75 v46
  let v79 : BitVec 32 := Scalar.addi v77 v78
  let v80 : BitVec 32 := Scalar.addi v76 v79
  let c1_i32_334 : BitVec 32 := 1#32
  let v393 : BitVec 32 := Scalar.muli v80 c1_i32_334
  let v394 : BitVec 32 := Scalar.addi c0_i32_335 v393
  v394.toNat
def k0_off18 (d0 : Dev nD) : Fin 2 → Nat :=
  let c5504_i32_346 : BitVec 32 := 5504#32
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c672_i32_269 : BitVec 32 := 672#32
  let v320 : BitVec 32 := Scalar.muli v74 c672_i32_269
  let v321 : BitVec 32 := Scalar.addi c0_i32_270 v320
  let v407 : BitVec 32 := Scalar.addi c5504_i32_346 v321
  let c1_i32_347 : BitVec 32 := 1#32
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v408 : BitVec 32 := Scalar.subi c1_i32_347 v46
  let c336_i32 : BitVec 32 := 336#32
  let v409 : BitVec 32 := Scalar.muli v408 c336_i32
  let v410 : BitVec 32 := Scalar.addi v407 v409
  let c0_i32_353 : BitVec 32 := 0#32
  ![v410.toNat, 0]
def k0_dev15 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_34 : BitVec 32 := 4#32
  let v82 : BitVec 32 := Scalar.muli v29 c4_i32_34
  let c1_i32_33 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v81 : BitVec 32 := Scalar.subi c1_i32_33 v46
  let c2_i32_35 : BitVec 32 := 2#32
  let v83 : BitVec 32 := Scalar.muli v81 c2_i32_35
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v84 : BitVec 32 := Scalar.xori v74 v81
  let v85 : BitVec 32 := Scalar.addi v83 v84
  let v86 : BitVec 32 := Scalar.addi v82 v85
  let c1_i32_350 : BitVec 32 := 1#32
  let v411 : BitVec 32 := Scalar.muli v86 c1_i32_350
  let v412 : BitVec 32 := Scalar.addi c0_i32_351 v411
  v412.toNat
def k0_off19 (d0 : Dev nD) : Fin 2 → Nat :=
  let c0_i32_362 : BitVec 32 := 0#32
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c688_i32_219 : BitVec 32 := 688#32
  let v276 : BitVec 32 := Scalar.muli v46 c688_i32_219
  let v277 : BitVec 32 := Scalar.addi c0_i32_220 v276
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c344_i32_322 : BitVec 32 := 344#32
  let v383 : BitVec 32 := Scalar.muli v29 c344_i32_322
  let v384 : BitVec 32 := Scalar.addi v277 v383
  let v427 : BitVec 32 := Scalar.addi c0_i32_362 v384
  let v428 : Index := Scalar.indexCast v427
  let c0_363 : Index := 0#32
  ![v428.toNat, 0]
def k0_off20 (d0 : Dev nD) : Fin 2 → Nat :=
  let c2752_i32_374 : BitVec 32 := 2752#32
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c688_i32_244 : BitVec 32 := 688#32
  let v298 : BitVec 32 := Scalar.muli v29 c688_i32_244
  let v299 : BitVec 32 := Scalar.addi c0_i32_245 v298
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c344_i32_339 : BitVec 32 := 344#32
  let v401 : BitVec 32 := Scalar.muli v74 c344_i32_339
  let v402 : BitVec 32 := Scalar.addi v299 v401
  let v442 : BitVec 32 := Scalar.addi c2752_i32_374 v402
  let v443 : Index := Scalar.indexCast v442
  let c0_375 : Index := 0#32
  ![v443.toNat, 0]
def k0_off21 (d0 : Dev nD) : Fin 2 → Nat :=
  let c5504_i32_387 : BitVec 32 := 5504#32
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c672_i32_269 : BitVec 32 := 672#32
  let v320 : BitVec 32 := Scalar.muli v74 c672_i32_269
  let v321 : BitVec 32 := Scalar.addi c0_i32_270 v320
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c336_i32_354 : BitVec 32 := 336#32
  let v419 : BitVec 32 := Scalar.muli v46 c336_i32_354
  let v420 : BitVec 32 := Scalar.addi v321 v419
  let v457 : BitVec 32 := Scalar.addi c5504_i32_387 v420
  let v458 : Index := Scalar.indexCast v457
  let c0_388 : Index := 0#32
  ![v458.toNat, 0]
def k0_off22 (d0 : Dev nD) : Fin 2 → Nat :=
  let c0_i32_392 : BitVec 32 := 0#32
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c688_i32_219 : BitVec 32 := 688#32
  let v276 : BitVec 32 := Scalar.muli v46 c688_i32_219
  let v277 : BitVec 32 := Scalar.addi c0_i32_220 v276
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c344_i32_322 : BitVec 32 := 344#32
  let v383 : BitVec 32 := Scalar.muli v29 c344_i32_322
  let v384 : BitVec 32 := Scalar.addi v277 v383
  let v466 : BitVec 32 := Scalar.addi c0_i32_392 v384
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c1376_i32_393 : BitVec 32 := 1376#32
  let v467 : BitVec 32 := Scalar.muli v74 c1376_i32_393
  let v468 : BitVec 32 := Scalar.addi v466 v467
  let v477 : Index := Scalar.indexCast v468
  let c0_402 : Index := 0#32
  ![v477.toNat, 0]
def k0_off23 (d0 : Dev nD) : Fin 2 → Nat :=
  let c2752_i32_403 : BitVec 32 := 2752#32
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c688_i32_244 : BitVec 32 := 688#32
  let v298 : BitVec 32 := Scalar.muli v29 c688_i32_244
  let v299 : BitVec 32 := Scalar.addi c0_i32_245 v298
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c344_i32_339 : BitVec 32 := 344#32
  let v401 : BitVec 32 := Scalar.muli v74 c344_i32_339
  let v402 : BitVec 32 := Scalar.addi v299 v401
  let v479 : BitVec 32 := Scalar.addi c2752_i32_403 v402
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c1376_i32_404 : BitVec 32 := 1376#32
  let v480 : BitVec 32 := Scalar.muli v46 c1376_i32_404
  let v481 : BitVec 32 := Scalar.addi v479 v480
  let v490 : Index := Scalar.indexCast v481
  let c0_413 : Index := 0#32
  ![v490.toNat, 0]
def k0_off24 (d0 : Dev nD) : Fin 2 → Nat :=
  let c5504_i32_414 : BitVec 32 := 5504#32
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c672_i32_269 : BitVec 32 := 672#32
  let v320 : BitVec 32 := Scalar.muli v74 c672_i32_269
  let v321 : BitVec 32 := Scalar.addi c0_i32_270 v320
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c336_i32_354 : BitVec 32 := 336#32
  let v419 : BitVec 32 := Scalar.muli v46 c336_i32_354
  let v420 : BitVec 32 := Scalar.addi v321 v419
  let v492 : BitVec 32 := Scalar.addi c5504_i32_414 v420
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1344_i32_415 : BitVec 32 := 1344#32
  let v493 : BitVec 32 := Scalar.muli v29 c1344_i32_415
  let v494 : BitVec 32 := Scalar.addi v492 v493
  let v503 : Index := Scalar.indexCast v494
  let c0_424 : Index := 0#32
  ![v503.toNat, 0]
def k0_off25 (d0 : Dev nD) : Fin 2 → Nat :=
  let c0_i32_392 : BitVec 32 := 0#32
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c688_i32_219 : BitVec 32 := 688#32
  let v276 : BitVec 32 := Scalar.muli v46 c688_i32_219
  let v277 : BitVec 32 := Scalar.addi c0_i32_220 v276
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c344_i32_322 : BitVec 32 := 344#32
  let v383 : BitVec 32 := Scalar.muli v29 c344_i32_322
  let v384 : BitVec 32 := Scalar.addi v277 v383
  let v466 : BitVec 32 := Scalar.addi c0_i32_392 v384
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c1376_i32_393 : BitVec 32 := 1376#32
  let v467 : BitVec 32 := Scalar.muli v74 c1376_i32_393
  let v468 : BitVec 32 := Scalar.addi v466 v467
  let c0_i32_429 : BitVec 32 := 0#32
  ![v468.toNat, 0]
def k0_dev16 (d0 : Dev nD) : Nat :=
  let c0_i32_428 : BitVec 32 := 0#32
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v87 : BitVec 32 := Scalar.subi c1_i32_36 v29
  let c4_i32_37 : BitVec 32 := 4#32
  let v88 : BitVec 32 := Scalar.muli v87 c4_i32_37
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_38 : BitVec 32 := 2#32
  let v89 : BitVec 32 := Scalar.muli v46 c2_i32_38
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v90 : BitVec 32 := Scalar.xori v74 v46
  let v91 : BitVec 32 := Scalar.addi v89 v90
  let v92 : BitVec 32 := Scalar.addi v88 v91
  let c1_i32_427 : BitVec 32 := 1#32
  let v505 : BitVec 32 := Scalar.muli v92 c1_i32_427
  let v506 : BitVec 32 := Scalar.addi c0_i32_428 v505
  v506.toNat
def k0_off26 (d0 : Dev nD) : Fin 2 → Nat :=
  let c2752_i32_403 : BitVec 32 := 2752#32
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c688_i32_244 : BitVec 32 := 688#32
  let v298 : BitVec 32 := Scalar.muli v29 c688_i32_244
  let v299 : BitVec 32 := Scalar.addi c0_i32_245 v298
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c344_i32_339 : BitVec 32 := 344#32
  let v401 : BitVec 32 := Scalar.muli v74 c344_i32_339
  let v402 : BitVec 32 := Scalar.addi v299 v401
  let v479 : BitVec 32 := Scalar.addi c2752_i32_403 v402
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c1376_i32_404 : BitVec 32 := 1376#32
  let v480 : BitVec 32 := Scalar.muli v46 c1376_i32_404
  let v481 : BitVec 32 := Scalar.addi v479 v480
  let c0_i32_436 : BitVec 32 := 0#32
  ![v481.toNat, 0]
def k0_dev17 (d0 : Dev nD) : Nat :=
  let c0_i32_435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_31 : BitVec 32 := 4#32
  let v76 : BitVec 32 := Scalar.muli v29 c4_i32_31
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_32 : BitVec 32 := 2#32
  let v77 : BitVec 32 := Scalar.muli v46 c2_i32_32
  let c1_i32_30 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v75 : BitVec 32 := Scalar.subi c1_i32_30 v74
  let v78 : BitVec 32 := Scalar.xori v75 v46
  let v79 : BitVec 32 := Scalar.addi v77 v78
  let v80 : BitVec 32 := Scalar.addi v76 v79
  let c1_i32_434 : BitVec 32 := 1#32
  let v515 : BitVec 32 := Scalar.muli v80 c1_i32_434
  let v516 : BitVec 32 := Scalar.addi c0_i32_435 v515
  v516.toNat
def k0_off27 (d0 : Dev nD) : Fin 2 → Nat :=
  let c5504_i32_414 : BitVec 32 := 5504#32
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c672_i32_269 : BitVec 32 := 672#32
  let v320 : BitVec 32 := Scalar.muli v74 c672_i32_269
  let v321 : BitVec 32 := Scalar.addi c0_i32_270 v320
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c336_i32_354 : BitVec 32 := 336#32
  let v419 : BitVec 32 := Scalar.muli v46 c336_i32_354
  let v420 : BitVec 32 := Scalar.addi v321 v419
  let v492 : BitVec 32 := Scalar.addi c5504_i32_414 v420
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1344_i32_415 : BitVec 32 := 1344#32
  let v493 : BitVec 32 := Scalar.muli v29 c1344_i32_415
  let v494 : BitVec 32 := Scalar.addi v492 v493
  let c0_i32_443 : BitVec 32 := 0#32
  ![v494.toNat, 0]
def k0_dev18 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_34 : BitVec 32 := 4#32
  let v82 : BitVec 32 := Scalar.muli v29 c4_i32_34
  let c1_i32_33 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v81 : BitVec 32 := Scalar.subi c1_i32_33 v46
  let c2_i32_35 : BitVec 32 := 2#32
  let v83 : BitVec 32 := Scalar.muli v81 c2_i32_35
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v84 : BitVec 32 := Scalar.xori v74 v81
  let v85 : BitVec 32 := Scalar.addi v83 v84
  let v86 : BitVec 32 := Scalar.addi v82 v85
  let c1_i32_441 : BitVec 32 := 1#32
  let v525 : BitVec 32 := Scalar.muli v86 c1_i32_441
  let v526 : BitVec 32 := Scalar.addi c0_i32_442 v525
  v526.toNat
def k0_off28 (d0 : Dev nD) : Fin 2 → Nat :=
  let c0_i32_392 : BitVec 32 := 0#32
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c688_i32_219 : BitVec 32 := 688#32
  let v276 : BitVec 32 := Scalar.muli v46 c688_i32_219
  let v277 : BitVec 32 := Scalar.addi c0_i32_220 v276
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c344_i32_322 : BitVec 32 := 344#32
  let v383 : BitVec 32 := Scalar.muli v29 c344_i32_322
  let v384 : BitVec 32 := Scalar.addi v277 v383
  let v466 : BitVec 32 := Scalar.addi c0_i32_392 v384
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c1376_i32_393 : BitVec 32 := 1376#32
  let v467 : BitVec 32 := Scalar.muli v74 c1376_i32_393
  let v468 : BitVec 32 := Scalar.addi v466 v467
  let c344_i32_431 : BitVec 32 := 344#32
  let v513 : BitVec 32 := Scalar.muli v29 c344_i32_431
  let v514 : BitVec 32 := Scalar.subi v468 v513
  let c0_i32_473 : BitVec 32 := 0#32
  ![v514.toNat, 0]
def k0_dev19 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_34 : BitVec 32 := 4#32
  let v82 : BitVec 32 := Scalar.muli v29 c4_i32_34
  let c1_i32_33 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v81 : BitVec 32 := Scalar.subi c1_i32_33 v46
  let c2_i32_35 : BitVec 32 := 2#32
  let v83 : BitVec 32 := Scalar.muli v81 c2_i32_35
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v84 : BitVec 32 := Scalar.xori v74 v81
  let v85 : BitVec 32 := Scalar.addi v83 v84
  let v86 : BitVec 32 := Scalar.addi v82 v85
  let c1_i32_471 : BitVec 32 := 1#32
  let v557 : BitVec 32 := Scalar.muli v86 c1_i32_471
  let v558 : BitVec 32 := Scalar.addi c0_i32_472 v557
  v558.toNat
def k0_off29 (d0 : Dev nD) : Fin 2 → Nat :=
  let c2752_i32_403 : BitVec 32 := 2752#32
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c688_i32_244 : BitVec 32 := 688#32
  let v298 : BitVec 32 := Scalar.muli v29 c688_i32_244
  let v299 : BitVec 32 := Scalar.addi c0_i32_245 v298
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c344_i32_339 : BitVec 32 := 344#32
  let v401 : BitVec 32 := Scalar.muli v74 c344_i32_339
  let v402 : BitVec 32 := Scalar.addi v299 v401
  let v479 : BitVec 32 := Scalar.addi c2752_i32_403 v402
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c1376_i32_404 : BitVec 32 := 1376#32
  let v480 : BitVec 32 := Scalar.muli v46 c1376_i32_404
  let v481 : BitVec 32 := Scalar.addi v479 v480
  let c344_i32_438 : BitVec 32 := 344#32
  let v523 : BitVec 32 := Scalar.muli v74 c344_i32_438
  let v524 : BitVec 32 := Scalar.subi v481 v523
  let c0_i32_485 : BitVec 32 := 0#32
  ![v524.toNat, 0]
def k0_dev20 (d0 : Dev nD) : Nat :=
  let c0_i32_484 : BitVec 32 := 0#32
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v87 : BitVec 32 := Scalar.subi c1_i32_36 v29
  let c4_i32_37 : BitVec 32 := 4#32
  let v88 : BitVec 32 := Scalar.muli v87 c4_i32_37
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_38 : BitVec 32 := 2#32
  let v89 : BitVec 32 := Scalar.muli v46 c2_i32_38
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v90 : BitVec 32 := Scalar.xori v74 v46
  let v91 : BitVec 32 := Scalar.addi v89 v90
  let v92 : BitVec 32 := Scalar.addi v88 v91
  let c1_i32_483 : BitVec 32 := 1#32
  let v571 : BitVec 32 := Scalar.muli v92 c1_i32_483
  let v572 : BitVec 32 := Scalar.addi c0_i32_484 v571
  v572.toNat
def k0_off30 (d0 : Dev nD) : Fin 2 → Nat :=
  let c5504_i32_414 : BitVec 32 := 5504#32
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c672_i32_269 : BitVec 32 := 672#32
  let v320 : BitVec 32 := Scalar.muli v74 c672_i32_269
  let v321 : BitVec 32 := Scalar.addi c0_i32_270 v320
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c336_i32_354 : BitVec 32 := 336#32
  let v419 : BitVec 32 := Scalar.muli v46 c336_i32_354
  let v420 : BitVec 32 := Scalar.addi v321 v419
  let v492 : BitVec 32 := Scalar.addi c5504_i32_414 v420
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1344_i32_415 : BitVec 32 := 1344#32
  let v493 : BitVec 32 := Scalar.muli v29 c1344_i32_415
  let v494 : BitVec 32 := Scalar.addi v492 v493
  let c336_i32_445 : BitVec 32 := 336#32
  let v533 : BitVec 32 := Scalar.muli v46 c336_i32_445
  let v534 : BitVec 32 := Scalar.subi v494 v533
  let c0_i32_497 : BitVec 32 := 0#32
  ![v534.toNat, 0]
def k0_dev21 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_31 : BitVec 32 := 4#32
  let v76 : BitVec 32 := Scalar.muli v29 c4_i32_31
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_32 : BitVec 32 := 2#32
  let v77 : BitVec 32 := Scalar.muli v46 c2_i32_32
  let c1_i32_30 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v75 : BitVec 32 := Scalar.subi c1_i32_30 v74
  let v78 : BitVec 32 := Scalar.xori v75 v46
  let v79 : BitVec 32 := Scalar.addi v77 v78
  let v80 : BitVec 32 := Scalar.addi v76 v79
  let c1_i32_495 : BitVec 32 := 1#32
  let v585 : BitVec 32 := Scalar.muli v80 c1_i32_495
  let v586 : BitVec 32 := Scalar.addi c0_i32_496 v585
  v586.toNat
def k0_off31 (d0 : Dev nD) : Fin 2 → Nat :=
  let c0_i32_392 : BitVec 32 := 0#32
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c688_i32_219 : BitVec 32 := 688#32
  let v276 : BitVec 32 := Scalar.muli v46 c688_i32_219
  let v277 : BitVec 32 := Scalar.addi c0_i32_220 v276
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c344_i32_322 : BitVec 32 := 344#32
  let v383 : BitVec 32 := Scalar.muli v29 c344_i32_322
  let v384 : BitVec 32 := Scalar.addi v277 v383
  let v466 : BitVec 32 := Scalar.addi c0_i32_392 v384
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c1376_i32_393 : BitVec 32 := 1376#32
  let v467 : BitVec 32 := Scalar.muli v74 c1376_i32_393
  let v468 : BitVec 32 := Scalar.addi v466 v467
  let c344_i32_431 : BitVec 32 := 344#32
  let v513 : BitVec 32 := Scalar.muli v29 c344_i32_431
  let v514 : BitVec 32 := Scalar.subi v468 v513
  let c688_i32_475 : BitVec 32 := 688#32
  let v565 : BitVec 32 := Scalar.muli v46 c688_i32_475
  let v566 : BitVec 32 := Scalar.subi v514 v565
  let c0_i32_526 : BitVec 32 := 0#32
  ![v566.toNat, 0]
def k0_dev22 (d0 : Dev nD) : Nat :=
  let c0_i32_525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_31 : BitVec 32 := 4#32
  let v76 : BitVec 32 := Scalar.muli v29 c4_i32_31
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_32 : BitVec 32 := 2#32
  let v77 : BitVec 32 := Scalar.muli v46 c2_i32_32
  let c1_i32_30 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v75 : BitVec 32 := Scalar.subi c1_i32_30 v74
  let v78 : BitVec 32 := Scalar.xori v75 v46
  let v79 : BitVec 32 := Scalar.addi v77 v78
  let v80 : BitVec 32 := Scalar.addi v76 v79
  let c1_i32_524 : BitVec 32 := 1#32
  let v617 : BitVec 32 := Scalar.muli v80 c1_i32_524
  let v618 : BitVec 32 := Scalar.addi c0_i32_525 v617
  v618.toNat
def k0_off32 (d0 : Dev nD) : Fin 2 → Nat :=
  let c2752_i32_403 : BitVec 32 := 2752#32
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c688_i32_244 : BitVec 32 := 688#32
  let v298 : BitVec 32 := Scalar.muli v29 c688_i32_244
  let v299 : BitVec 32 := Scalar.addi c0_i32_245 v298
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c344_i32_339 : BitVec 32 := 344#32
  let v401 : BitVec 32 := Scalar.muli v74 c344_i32_339
  let v402 : BitVec 32 := Scalar.addi v299 v401
  let v479 : BitVec 32 := Scalar.addi c2752_i32_403 v402
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c1376_i32_404 : BitVec 32 := 1376#32
  let v480 : BitVec 32 := Scalar.muli v46 c1376_i32_404
  let v481 : BitVec 32 := Scalar.addi v479 v480
  let c344_i32_438 : BitVec 32 := 344#32
  let v523 : BitVec 32 := Scalar.muli v74 c344_i32_438
  let v524 : BitVec 32 := Scalar.subi v481 v523
  let c688_i32_487 : BitVec 32 := 688#32
  let v579 : BitVec 32 := Scalar.muli v29 c688_i32_487
  let v580 : BitVec 32 := Scalar.subi v524 v579
  let c0_i32_537 : BitVec 32 := 0#32
  ![v580.toNat, 0]
def k0_dev23 (d0 : Dev nD) : Nat :=
  let c0_i32_536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_34 : BitVec 32 := 4#32
  let v82 : BitVec 32 := Scalar.muli v29 c4_i32_34
  let c1_i32_33 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v81 : BitVec 32 := Scalar.subi c1_i32_33 v46
  let c2_i32_35 : BitVec 32 := 2#32
  let v83 : BitVec 32 := Scalar.muli v81 c2_i32_35
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v84 : BitVec 32 := Scalar.xori v74 v81
  let v85 : BitVec 32 := Scalar.addi v83 v84
  let v86 : BitVec 32 := Scalar.addi v82 v85
  let c1_i32_535 : BitVec 32 := 1#32
  let v629 : BitVec 32 := Scalar.muli v86 c1_i32_535
  let v630 : BitVec 32 := Scalar.addi c0_i32_536 v629
  v630.toNat
def k0_off33 (d0 : Dev nD) : Fin 2 → Nat :=
  let c5504_i32_414 : BitVec 32 := 5504#32
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let c672_i32_269 : BitVec 32 := 672#32
  let v320 : BitVec 32 := Scalar.muli v74 c672_i32_269
  let v321 : BitVec 32 := Scalar.addi c0_i32_270 v320
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c336_i32_354 : BitVec 32 := 336#32
  let v419 : BitVec 32 := Scalar.muli v46 c336_i32_354
  let v420 : BitVec 32 := Scalar.addi v321 v419
  let v492 : BitVec 32 := Scalar.addi c5504_i32_414 v420
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1344_i32_415 : BitVec 32 := 1344#32
  let v493 : BitVec 32 := Scalar.muli v29 c1344_i32_415
  let v494 : BitVec 32 := Scalar.addi v492 v493
  let c336_i32_445 : BitVec 32 := 336#32
  let v533 : BitVec 32 := Scalar.muli v46 c336_i32_445
  let v534 : BitVec 32 := Scalar.subi v494 v533
  let c672_i32_499 : BitVec 32 := 672#32
  let v593 : BitVec 32 := Scalar.muli v74 c672_i32_499
  let v594 : BitVec 32 := Scalar.subi v534 v593
  let c0_i32_548 : BitVec 32 := 0#32
  ![v594.toNat, 0]
def k0_dev24 (d0 : Dev nD) : Nat :=
  let c0_i32_547 : BitVec 32 := 0#32
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v87 : BitVec 32 := Scalar.subi c1_i32_36 v29
  let c4_i32_37 : BitVec 32 := 4#32
  let v88 : BitVec 32 := Scalar.muli v87 c4_i32_37
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let c2_i32_38 : BitVec 32 := 2#32
  let v89 : BitVec 32 := Scalar.muli v46 c2_i32_38
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_24 : BitVec 32 := 0#32
  let v58 : BitVec 1 := Scalar.cmpi .sgt v12 c0_i32_24
  let v59 : BitVec 32 := Scalar.extui v58
  let c0_i32_25 : BitVec 32 := 0#32
  let v60 : BitVec 1 := Scalar.cmpi .slt v12 c0_i32_25
  let v61 : BitVec 32 := Scalar.extui v60
  let v62 : BitVec 32 := Scalar.subi v59 v61
  let c2_i32_23 : BitVec 32 := 2#32
  let c0_i32_26 : BitVec 32 := 0#32
  let v63 : BitVec 1 := Scalar.cmpi .sgt c2_i32_23 c0_i32_26
  let v64 : BitVec 32 := Scalar.extui v63
  let c0_i32_27 : BitVec 32 := 0#32
  let v65 : BitVec 1 := Scalar.cmpi .slt c2_i32_23 c0_i32_27
  let v66 : BitVec 32 := Scalar.extui v65
  let v67 : BitVec 32 := Scalar.subi v64 v66
  let v68 : BitVec 1 := Scalar.cmpi .ne v62 v67
  let v69 : BitVec 32 := Scalar.remsi v12 c2_i32_23
  let c0_i32_28 : BitVec 32 := 0#32
  let v70 : BitVec 1 := Scalar.cmpi .ne v69 c0_i32_28
  let v71 : BitVec 1 := Scalar.andi v68 v70
  let v57 : BitVec 32 := Scalar.divsi v12 c2_i32_23
  let c1_i32_29 : BitVec 32 := 1#32
  let v72 : BitVec 32 := Scalar.subi v57 c1_i32_29
  let v73 : BitVec 32 := Scalar.select v71 v72 v57
  let v74 : BitVec 32 := Scalar.xori v56 v73
  let v90 : BitVec 32 := Scalar.xori v74 v46
  let v91 : BitVec 32 := Scalar.addi v89 v90
  let v92 : BitVec 32 := Scalar.addi v88 v91
  let c1_i32_546 : BitVec 32 := 1#32
  let v641 : BitVec 32 := Scalar.muli v92 c1_i32_546
  let v642 : BitVec 32 := Scalar.addi c0_i32_547 v641
  v642.toNat
abbrev stage0_0 : Fin 1 → Memref sig .tc .vmem S8192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S65536x1024 : Shape := ⟨2, ![65536, 1024]⟩
abbrev S8x8192x1024 : Shape := ⟨3, ![8, 8192, 1024]⟩
abbrev S_ : Shape := ⟨0, ![]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x8192x1024, .f32⟩
  | .hbm, ⟨2, _⟩ => ⟨S_, .f32⟩
  | .hbm, ⟨3, _⟩ => ⟨S8192x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Rows.lean ====
/-
# Rows: ownership of a run of rows of a two-axis buffer

Every transfer of the kernel moves whole rows of 1024 columns, and every addition works on whole rows. This module
states what a core owns as `own c M q a n G g`: the rows `a, …, a + n - 1` of `M`, where row `a + i` holds row `g + i` of
the table `G`. Rows split and join along the row axis, and owning the rows is owning the slice of `M` they form.
-/
module

public import Idealize.ShloMosaic.Lib.MemrefSat
public import Idealize.ShloMosaic.Lib.Pipeline.Kit
public import Idealize.ShloMosaic.Lib.Tactic

@[expose] public section

noncomputable section

namespace Cert.Rows

open Idealize.ShloMosaic
open Idealize.SL
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The shape of `n` rows of 1024 columns. -/
abbrev RS (n : Nat) : Shape := ⟨2, ![n, 1024]⟩

/-- A table of values by row and column. -/
abbrev Tab (Val : EltTy → Type) : Type := Nat → Nat → Val .f32

/-- The indices of the rows `a, …, a + n - 1`. -/
def rowSet (H a n : Nat) : Finset (RS H).Idx := Finset.univ.filter fun x => a ≤ (x 0 : Nat) ∧ (x 0 : Nat) < a + n

theorem mem_rowSet {H a n : Nat} {x : (RS H).Idx} : x ∈ rowSet H a n ↔ a ≤ (x 0 : Nat) ∧ (x 0 : Nat) < a + n := by
  simp [rowSet]

/-- The block of `n` rows of a table starting at row `g`. -/
def blk (G : Tab Val) (g n : Nat) : (RS n).Idx → Val .f32 := fun y => G (g + (y 0 : Nat)) (y 1 : Nat)

/-- Rows `a, …, a + n - 1` lie inside `H` rows. -/
theorem inb {H a n : Nat} (h : a + n ≤ H) :
    ∀ k, (![a, 0] : Fin (RS H).rank → Nat) k + (RS n).size k ≤ (RS H).size k :=
  Rect.inb₂ h (le_refl 1024)

/-- The rows as a rectangle. -/
abbrev rr (H a n : Nat) (h : a + n ≤ H) : Rect (RS H) := Rect.unit (s := RS H) ![a, 0] (RS n).size (inb h)

/-- The rows as a memref of their own. -/
abbrev rv {κ : Kind} {sp : Space} {H : Nat} (M : Memref sig κ sp (RS H) .f32) (a n : Nat) (h : a + n ≤ H) :
    Memref sig κ sp (RS n) .f32 := M.slice (rr H a n h) (fun _ => rfl)

theorem rr_set {H a n : Nat} (h : a + n ≤ H) : (rr H a n h).set = rowSet H a n := by
  ext x
  rw [Rect.mem_set_unit, mem_rowSet]
  constructor
  · intro hx; exact hx 0
  · intro hx k
    match k with
    | ⟨0, _⟩ => exact hx
    | ⟨1, _⟩ => exact ⟨Nat.zero_le _, by have := (x 1).isLt; exact lt_of_lt_of_eq this (Nat.zero_add 1024).symm⟩

theorem rr_emb0 {H a n : Nat} (h : a + n ≤ H) (y : (RS n).Idx) : ((rr H a n h).emb y 0 : Nat) = a + (y 0 : Nat) := by
  rw [Rect.emb_apply]; show a + 1 * (y 0 : Nat) = _; rw [Nat.one_mul]

theorem rr_emb1 {H a n : Nat} (h : a + n ≤ H) (y : (RS n).Idx) : ((rr H a n h).emb y 1 : Nat) = (y 1 : Nat) := by
  rw [Rect.emb_apply]; show 0 + 1 * (y 1 : Nat) = _; rw [Nat.one_mul, Nat.zero_add]

section
variable (c : Thread nD τ) {sp : Space} {H : Nat} (M : Memref sig c.2.kind sp (RS H) .f32)

/-- Core `c` owns rows `a, …, a + n - 1` of `M` at share `q`; row `a + i` holds row `g + i` of `G`. -/
def own (q : PosShare TreeShare) (a n : Nat) (G : Tab Val) (g : Nat) : sProp 𝕄 :=
  iprop(∃ f, ⌜∀ x ∈ rowSet H a n, M.view.read Val f x = G (g + ((x 0 : Nat) - a)) (x 1 : Nat)⌝
    ∗ (M.view.loc c ↦[M.view.setOn (rowSet H a n)]{q} f))

/-- Core `c` owns rows `a, …, a + n - 1` of `M`, whatever they hold. -/
def ownAny (a n : Nat) : sProp 𝕄 :=
  iprop(∃ f : Buf Val (M.view.loc c), (M.view.loc c ↦[M.view.setOn (rowSet H a n)]{fullShare} f))

instance own_storable (q : PosShare TreeShare) (a n : Nat) (G : Tab Val) (g : Nat) :
    BI.Storable (upEmb : UEmb _ 𝕄) (own c M q a n G g) := by
  unfold own; infer_instance

instance ownAny_storable (a n : Nat) : BI.Storable (upEmb : UEmb _ 𝕄) (ownAny c M a n (Val := Val)) := by
  unfold ownAny; infer_instance

variable {q : PosShare TreeShare} {a n n' : Nat} {G G' : Tab Val} {g g' : Nat}

/-- Forgetting what owned rows hold. -/
theorem own_any : own c M fullShare a n G g ⊢ (ownAny c M a n : sProp 𝕄) := by
  unfold own ownAny
  iintro ⟨%f, -, H⟩; iexists f; iexact H

/-- The table matters only on the rows owned. -/
theorem own_congr (h : ∀ i < n, ∀ j, G (g + i) j = G' (g' + i) j) :
    own c M q a n G g ⊢ (own c M q a n G' g' : sProp 𝕄) := by
  unfold own
  iintro ⟨%f, %hf, H⟩; iexists f
  isplitr
  · ipureintro
    intro x hx
    have hx' := mem_rowSet.mp hx
    rw [hf x hx]; exact h _ (by omega) _
  · iexact H

theorem rowSet_union : rowSet H a n ∪ rowSet H (a + n) n' = rowSet H a (n + n') := by
  ext x; simp only [Finset.mem_union, mem_rowSet]; omega

theorem rowSet_disjoint : Disjoint (rowSet H a n) (rowSet H (a + n) n') := by
  rw [Finset.disjoint_left]; intro x; simp only [mem_rowSet]; omega

theorem setOn_rows_union : M.view.setOn (rowSet H a n) ∪ M.view.setOn (rowSet H (a + n) n')
    = M.view.setOn (rowSet H a (n + n')) := by
  rw [← rowSet_union]; unfold View.setOn; rw [Finset.map_union]

theorem setOn_rows_disjoint : Disjoint (M.view.setOn (rowSet H a n)) (M.view.setOn (rowSet H (a + n) n')) := by
  unfold View.setOn; exact (Finset.disjoint_map _).mpr rowSet_disjoint

/-- Owned rows split along the row axis. -/
theorem own_split : own c M q a (n + n') G g
    ⊢ (iprop(own c M q a n G g ∗ own c M q (a + n) n' G (g + n)) : sProp 𝕄) := by
  unfold own
  iintro ⟨%f, %hf, H⟩
  rw [← setOn_rows_union]
  ihave ⟨H1, H2⟩ := (pointsTo_union (setOn_rows_disjoint c M)).1 $$ H
  isplitl [H1]
  · iexists f; isplitr
    · ipureintro; intro x hx
      exact hf x (by rw [← rowSet_union]; exact Finset.mem_union_left _ hx)
    · iexact H1
  · iexists f; isplitr
    · ipureintro; intro x hx
      rw [hf x (by rw [← rowSet_union]; exact Finset.mem_union_right _ hx)]
      have := mem_rowSet.mp hx
      congr 1; omega
    · iexact H2

/-- Neighbouring owned rows join along the row axis. -/
theorem own_join : iprop(own c M q a n G g ∗ own c M q (a + n) n' G (g + n))
    ⊢ (own c M q a (n + n') G g : sProp 𝕄) := by
  unfold own
  iintro ⟨⟨%f, %hf, H1⟩, ⟨%f', %hf', H2⟩⟩
  ihave H := (pointsTo_join (ℓ := M.view.loc c) (setOn_rows_disjoint c M (a := a) (n := n) (n' := n')) (f := f) (g := f')) $$ [H1 H2]
  · isplitl [H1]; · iexact H1
    iexact H2
  rw [setOn_rows_union]
  iexists _
  isplitr
  rotate_left
  · iexact H
  · ipureintro; intro x hx
    rw [← rowSet_union] at hx
    by_cases h2 : x ∈ rowSet H (a + n) n'
    · rw [View.read_congr_at (g := f') x (Finset.piecewise_eq_of_mem _ _ _ (M.view.mem_setOn.mpr h2)), hf' x h2]
      have := mem_rowSet.mp h2
      congr 1; omega
    · rw [View.read_congr_at (g := f) x (Finset.piecewise_eq_of_notMem _ _ _ (fun hm => h2 (M.view.mem_setOn.mp hm)))]
      exact hf x ((Finset.mem_union.mp hx).resolve_right h2)

/-- Rows of unknown contents split. -/
theorem ownAny_split : ownAny c M a (n + n')
    ⊢ (iprop(ownAny c M a n ∗ ownAny c M (a + n) n') : sProp 𝕄) := by
  unfold ownAny
  iintro ⟨%f, H⟩
  rw [← setOn_rows_union]
  ihave ⟨H1, H2⟩ := (pointsTo_union (setOn_rows_disjoint c M)).1 $$ H
  isplitl [H1]
  · iexists f; iexact H1
  · iexists f; iexact H2

/-- Neighbouring rows of unknown contents join. -/
theorem ownAny_join : iprop(ownAny c M a n ∗ ownAny c M (a + n) n')
    ⊢ (ownAny c M a (n + n') : sProp 𝕄) := by
  unfold ownAny
  iintro ⟨⟨%f, H1⟩, ⟨%f', H2⟩⟩
  ihave H := (pointsTo_join (ℓ := M.view.loc c) (setOn_rows_disjoint c M (a := a) (n := n) (n' := n')) (f := f) (g := f')) $$ [H1 H2]
  · isplitl [H1]; · iexact H1
    iexact H2
  rw [setOn_rows_union]
  iexists _; iexact H

theorem rv_set (h : a + n ≤ H) : (rv M a n h).view.set = M.view.setOn (rowSet H a n) := by
  show (M.view.slice (rr H a n h)).set = _
  rw [View.set_slice, rr_set]; rfl

theorem read_rv (h : a + n ≤ H) (f : M.view.ty.Contents Val) (y : (RS n).Idx) :
    (rv M a n h).view.read Val f y = M.view.read Val f ((rr H a n h).emb y) := rfl

theorem read_rows_iff (h : a + n ≤ H) (f : M.view.ty.Contents Val) :
    (rv M a n h).view.read Val f = blk G g n
      ↔ ∀ x ∈ rowSet H a n, M.view.read Val f x = G (g + ((x 0 : Nat) - a)) (x 1 : Nat) := by
  constructor
  · intro hf x hx
    rw [← rr_set h, ← Rect.map_emb_univ] at hx
    obtain ⟨y, -, rfl⟩ := Finset.mem_map.mp hx
    have := congrFun hf y
    rw [read_rv] at this
    rw [this]
    show G (g + (y 0 : Nat)) (y 1 : Nat) = G (g + (((rr H a n h).emb y 0 : Nat) - a)) ((rr H a n h).emb y 1 : Nat)
    rw [rr_emb0 h, rr_emb1 h, Nat.add_sub_cancel_left]
  · intro hf
    funext y
    rw [read_rv, hf _ (by rw [← rr_set h, ← Rect.map_emb_univ]; exact Finset.mem_map_of_mem _ (Finset.mem_univ _)), rr_emb0 h, rr_emb1 h,
      Nat.add_sub_cancel_left]
    rfl

/-- Owning rows is owning the slice they form. -/
theorem own_slice (h : a + n ≤ H) :
    (own c M q a n G g : sProp 𝕄) ⊣⊢ iprop(∃ f, ⌜(rv M a n h).view.read Val f = blk G g n⌝
      ∗ ((rv M a n h).view.loc c ↦[(rv M a n h).view.set]{q} f)) := by
  rw [rv_set]
  unfold own
  refine ⟨?_, ?_⟩
  · iintro ⟨%f, %hf, H⟩; iexists f; isplitr
    · ipureintro; exact (read_rows_iff c M h f).mpr hf
    · iexact H
  · iintro ⟨%f, %hf, H⟩; iexists f; isplitr
    · ipureintro; exact (read_rows_iff c M h f).mp hf
    · iexact H

/-- The same for rows of unknown contents. -/
theorem ownAny_slice (h : a + n ≤ H) :
    (ownAny c M a n : sProp 𝕄) ⊣⊢ iprop(∃ f : Buf Val ((rv M a n h).view.loc c),
      ((rv M a n h).view.loc c ↦[(rv M a n h).view.set]{fullShare} f)) := by
  rw [rv_set]
  exact ⟨.rfl, .rfl⟩

/-- Rows written through their slice hold what was written. -/
theorem own_written (h : a + n ≤ H) (f : M.view.ty.Contents Val) :
    ((rv M a n h).view.loc c ↦[(rv M a n h).view.set]{fullShare} ((rv M a n h).view.write Val f (blk G g n) Finset.univ) : sProp 𝕄)
      ⊢ own c M fullShare a n G g := by
  iintro H
  iapply (own_slice c M h).2
  iexists _
  isplitr
  rotate_left
  · iexact H
  · ipureintro; exact View.read_write_univ _ _
end

end Cert.Rows
-- ==== Proof.Geo.lean ====
/-
# Geo: the eight devices, their partners, the rows each transfer moves, and the kernel as a list of phases

The kernel reduces three bands of rows at once. Band `p` has `8 * q8 p` rows and exchanges along the mesh axes
`p`, `p + 1`, `p + 2` (mod 3). `bt e c` is device `c`'s coordinate on axis `e` and `prt e c` its partner there.
Everything a band does is written once, for any band; `body_eq` says the printed body is these phases in order.
-/
module

public import proofs.«01_k».proof.Proof.Rows
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.AllReduce

open Cert.KernelIdeal Cert.KernelIdeal.Gen Cert.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The mesh -/

/-- Device `c`'s coordinate on axis `e`. -/
def bt (e : Fin 3) (c : Dev nD) : Nat :=
  match e with
  | 0 => (c.val % 4 % 2 + c.val % 4 / 2) % 2
  | 1 => c.val % 4 / 2
  | 2 => c.val / 4

/-- The bits of a device's number its partner on an axis flips. -/
def msk (e : Fin 3) : Nat := match e with | 0 => 1 | 1 => 3 | 2 => 4

theorem prt_lt : ∀ (e : Fin 3) (c : Dev nD), c.val ^^^ msk e < nD := by decide

/-- Device `c`'s partner on axis `e`. -/
def prt (e : Fin 3) (c : Dev nD) : Dev nD := ⟨c.val ^^^ msk e, prt_lt e c⟩

theorem prt_prt : ∀ (e : Fin 3) (c : Dev nD), prt e (prt e c) = c := by decide
theorem bt_le : ∀ (e : Fin 3) (c : Dev nD), bt e c = 0 ∨ bt e c = 1 := by decide
theorem bt_prt : ∀ (e : Fin 3) (c : Dev nD), bt e (prt e c) = 1 - bt e c := by decide
theorem bt_prt_ne : ∀ (e e' : Fin 3) (c : Dev nD), e' ≠ e → bt e' (prt e c) = bt e' c := by decide

/-! ## Rows -/

/-- An eighth of band `p`'s rows. -/
def q8 (p : Fin 3) : Nat := match p with | 0 => 344 | 1 => 344 | 2 => 336

/-- Band `p`'s first row. -/
def base (p : Fin 3) : Nat := match p with | 0 => 0 | 1 => 2752 | 2 => 5504

/-- The half of the band device `c` works on, as global rows; -/
def gw (p : Fin 3) (c : Dev nD) : Nat := base p + bt p c * (4 * q8 p)
/-- the other half, which its first partner works on. -/
def xo (p : Fin 3) (c : Dev nD) : Nat := base p + (1 - bt p c) * (4 * q8 p)
/-- Second exchange: the working rows sent, -/
def w1s (p : Fin 3) (c : Dev nD) : Nat := base p + (1 - bt (p + 1) c) * (2 * q8 p)
/-- and the working rows kept. -/
def w1k (p : Fin 3) (c : Dev nD) : Nat := base p + bt (p + 1) c * (2 * q8 p)
/-- Third exchange: the working rows sent, -/
def w2s (p : Fin 3) (c : Dev nD) : Nat := w1k p c + (1 - bt (p + 2) c) * q8 p
/-- and the working rows kept: the device's own eighth, summed. -/
def w2k (p : Fin 3) (c : Dev nD) : Nat := w1k p c + bt (p + 2) c * q8 p
/-- The quarter and the eighth of the result device `c` gathers from, as global rows. -/
def gq (p : Fin 3) (c : Dev nD) : Nat := gw p c + bt (p + 1) c * (2 * q8 p)
def go (p : Fin 3) (c : Dev nD) : Nat := gq p c + bt (p + 2) c * q8 p

theorem gw_le : ∀ (p : Fin 3) (c : Dev nD), gw p c + 4 * q8 p ≤ 8192 := by decide
theorem xo_le : ∀ (p : Fin 3) (c : Dev nD), xo p c + 2 * q8 p ≤ 8192 := by decide
theorem xo2_le : ∀ (p : Fin 3) (c : Dev nD), xo p c + 2 * q8 p + 2 * q8 p ≤ 8192 := by decide
theorem base_le : ∀ p : Fin 3, base p + 4 * q8 p ≤ 8192 := by decide
theorem base2_le : ∀ p : Fin 3, base p + 2 * q8 p ≤ 8192 := by decide
theorem base4_le : ∀ p : Fin 3, base p + 2 * q8 p + 2 * q8 p ≤ 8192 := by decide
theorem w1s_le : ∀ (p : Fin 3) (c : Dev nD), w1s p c + 2 * q8 p ≤ 8192 := by decide
theorem w1k_le : ∀ (p : Fin 3) (c : Dev nD), w1k p c + 2 * q8 p ≤ 8192 := by decide
theorem w2s_le : ∀ (p : Fin 3) (c : Dev nD), w2s p c + q8 p ≤ 8192 := by decide
theorem w2k_le : ∀ (p : Fin 3) (c : Dev nD), w2k p c + q8 p ≤ 8192 := by decide
theorem gq_le : ∀ (p : Fin 3) (c : Dev nD), gq p c + 2 * q8 p ≤ 8192 := by decide
theorem go_le : ∀ (p : Fin 3) (c : Dev nD), go p c + q8 p ≤ 8192 := by decide
theorem r0_le : ∀ p : Fin 3, 0 + 2 * q8 p ≤ 7 * q8 p := by decide
theorem r6_le : ∀ p : Fin 3, 2 * q8 p + 2 * q8 p ≤ 7 * q8 p := by decide
theorem r1_le : ∀ p : Fin 3, 4 * q8 p + 2 * q8 p ≤ 7 * q8 p := by decide
theorem r2_le : ∀ p : Fin 3, 6 * q8 p + q8 p ≤ 7 * q8 p := by decide
theorem pos2 : ∀ p : Fin 3, 0 < (RS (2 * q8 p)).numel := by decide
theorem pos1 : ∀ p : Fin 3, 0 < (RS (q8 p)).numel := by decide

/-! ## Buffers and semaphores -/

/-- The argument's block, -/
abbrev xM : Memref sig .tc .hbm (RS 8192) .f32 := Memref.whole main_arg0
/-- the result, -/
abbrev oM : Memref sig .tc .vmem (RS 8192) .f32 := Memref.whole cc0_stg0_0
/-- and band `p`'s receive buffer. -/
def rM (p : Fin 3) : Memref sig .tc .vmem (RS (7 * q8 p)) .f32 :=
  match p with
  | 0 => (Memref.whole cc0_scratch0 : Memref sig .tc .vmem (RS 2408) .f32)
  | 1 => (Memref.whole cc0_scratch1 : Memref sig .tc .vmem (RS 2408) .f32)
  | 2 => (Memref.whole cc0_scratch2 : Memref sig .tc .vmem (RS 2352) .f32)

/-- Band `p`'s semaphore for the sender's end of transfer `t`, -/
def sn (p : Fin 3) (t : Fin 7) : DmaSem sig := ⟨1 + 8 * p.val + t.val, by have := p.isLt; have := t.isLt; show _ < 52; omega⟩
/-- for its receiver's end, -/
def rc (p : Fin 3) (t : Fin 7) : DmaSem sig := ⟨25 + 8 * p.val + t.val, by have := p.isLt; have := t.isLt; show _ < 52; omega⟩
/-- and for the copy of the device's own half into the result. -/
def inn (p : Fin 3) : DmaSem sig := ⟨49 + p.val, by have := p.isLt; show _ < 52; omega⟩

/-! ## The operations -/

/-- Programs of the kernel's core. -/
abbrev P₀ (F : FTy → Type) [FloatOps F] (α : Type) := Prog (TpuEff nD τ sig (Elt F) Λ₀ .tc) α

/-- A send of rows to device `d`. -/
def sendP {sp : Space} {n : Nat} (src : Memref sig .tc sp (RS n) .f32) (dst : Memref sig .tc .vmem (RS n) .f32)
    (d : Dev nD) (s r : DmaSem sig) (hs : dst.view.ref.isScScratch = false)
    (h : DmaTarget.Typed (nD := nD) (τ := τ) (sig := sig) (p := (Proc.tc : Proc τ)) sp (.dma r) (.remote (Dev.tc (τ := τ) d) dst (.dma s) hs)) : P₀ F PUnit :=
  Prog.lift (.enqueueDma src (.remote (Dev.tc d) dst (.dma s) hs) (.dma r) (View.wordExact_bits rfl) (View.wordExact_bits rfl) h)

/-- A wait for a transfer from `src` to `dst`. -/
def waitP {sp sp' : Space} {n : Nat} (s : DmaSem sig) (src : Memref sig .tc sp (RS n) .f32) (dst : Memref sig .tc sp' (RS n) .f32) : P₀ F PUnit :=
  Prog.lift (.waitDma2 s src dst (View.wordExact_bits rfl) (View.wordExact_bits rfl))

/-- Rows `b, …` of `R` added to rows `a, …` of `M`. -/
def addP {H H' : Nat} (M : Memref sig .tc .vmem (RS H) .f32) (R : Memref sig .tc .vmem (RS H') .f32) (a b n : Nat)
    (ha : a + n ≤ H) (hb : b + n ≤ H') (hn : 0 < (RS n).numel) (hc : (RS n).ShapeCasts (RS n)) : P₀ F PUnit := do
  let u : Vec F (RS n) .f32 ← Prog.lift (.load M (rr H a n ha).toLoadRect (View.loadsAt_vmem hn))
  let v : Vec F (RS n) .f32 ← Prog.lift (.load R (rr H' b n hb).toLoadRect (View.loadsAt_vmem hn))
  let w : Vec F (RS n) .f32 ← Prog.lift (.load M (rr H a n ha).toLoadRect (View.loadsAt_vmem hn))
  Prog.lift (.store M (rr H a n ha) (addf (shapeCast (RS n) u hc) v) Finset.univ (View.stores_vmem_bits_univ hn rfl) (.inl rfl))

/-- Rows `a, …` of `M` copied to rows `b, …`. -/
def copyP {H : Nat} (M : Memref sig .tc .vmem (RS H) .f32) (a b n : Nat)
    (ha : a + n ≤ H) (hb : b + n ≤ H) (hn : 0 < (RS n).numel) (hc : (RS n).ShapeCasts (RS n)) : P₀ F PUnit := do
  let u : Vec F (RS n) .f32 ← Prog.lift (.load M (rr H a n ha).toLoadRect (View.loadsAt_vmem hn))
  let w : Vec F (RS n) .f32 ← Prog.lift (.load M (rr H b n hb).toLoadRect (View.loadsAt_vmem hn))
  Prog.lift (.store M (rr H b n hb) (shapeCast (RS n) u hc) Finset.univ (View.stores_vmem_bits_univ hn rfl) (.inl rfl))

/-! ## The phases of a band

Each phase is stated for any band `p`, any rows `a, …` and any target device `d`; `kernelP` gives the values the program computes. -/

theorem sc1 : ∀ p : Fin 3, (RS (q8 p)).ShapeCasts (RS (q8 p)) := by decide
theorem sc2 : ∀ p : Fin 3, (RS (2 * q8 p)).ShapeCasts (RS (2 * q8 p)) := by decide
theorem scr : ∀ p : Fin 3, (rM p).view.ref.isScScratch = false := by decide

/-- Copy the device's half of the band into the result, and send the other half's two quarters. -/
def startP (p : Fin 3) (a s s' : Nat) (ha : a + 4 * q8 p ≤ 8192) (hs : s + 2 * q8 p ≤ 8192) (hs' : s' + 2 * q8 p ≤ 8192)
    (d d' : Dev nD) : P₀ F PUnit := do
  Prog.lift (.enqueueDma (rv xM a (4 * q8 p) ha) (.here (rv oM (base p) (4 * q8 p) (base_le p))) (.dma (inn p))
    (View.wordExact_bits rfl) (View.wordExact_bits rfl) ⟨Or.inl rfl, trivial⟩)
  sendP (rv xM s (2 * q8 p) hs) (rv (rM p) 0 (2 * q8 p) (r0_le p)) d (sn p 0) (rc p 0) (scr p) ⟨⟨rfl, Or.inl rfl⟩, trivial⟩
  sendP (rv xM s' (2 * q8 p) hs') (rv (rM p) (2 * q8 p) (2 * q8 p) (r6_le p)) d' (sn p 6) (rc p 6) (scr p) ⟨⟨rfl, Or.inl rfl⟩, trivial⟩

/-- Wait for the first quarter and the local copy; add the quarter. -/
def acc0P (p : Fin 3) (a s : Nat) (ha : a + 4 * q8 p ≤ 8192) (hs : s + 2 * q8 p ≤ 8192) : P₀ F PUnit := do
  waitP (rc p 0) (rv xM s (2 * q8 p) hs) (rv (rM p) 0 (2 * q8 p) (r0_le p))
  waitP (inn p) (rv xM a (4 * q8 p) ha) (rv oM (base p) (4 * q8 p) (base_le p))
  addP oM (rM p) (base p) 0 (2 * q8 p) (base2_le p) (r0_le p) (pos2 p) (sc2 p)

/-- Wait for the second quarter; add it. -/
def acc6P (p : Fin 3) (s : Nat) (hs : s + 2 * q8 p ≤ 8192) : P₀ F PUnit := do
  waitP (rc p 6) (rv xM s (2 * q8 p) hs) (rv (rM p) (2 * q8 p) (2 * q8 p) (r6_le p))
  addP oM (rM p) (base p + 2 * q8 p) (2 * q8 p) (2 * q8 p) (base4_le p) (r6_le p) (pos2 p) (sc2 p)

/-- Second exchange: wait for both first sends to be done, send a quarter; -/
def send1P (p : Fin 3) (s s' a : Nat) (hs : s + 2 * q8 p ≤ 8192) (hs' : s' + 2 * q8 p ≤ 8192) (ha : a + 2 * q8 p ≤ 8192)
    (d : Dev nD) : P₀ F PUnit := do
  waitP (sn p 0) (rv (rM p) 0 (2 * q8 p) (r0_le p)) (rv xM s (2 * q8 p) hs)
  waitP (sn p 6) (rv (rM p) (2 * q8 p) (2 * q8 p) (r6_le p)) (rv xM s' (2 * q8 p) hs')
  sendP (rv oM a (2 * q8 p) ha) (rv (rM p) (4 * q8 p) (2 * q8 p) (r1_le p)) d (sn p 1) (rc p 1) (scr p) ⟨⟨rfl, Or.inl rfl⟩, trivial⟩

/-- add what arrives to the other quarter. -/
def acc1P (p : Fin 3) (a k : Nat) (ha : a + 2 * q8 p ≤ 8192) (hk : k + 2 * q8 p ≤ 8192) : P₀ F PUnit := do
  waitP (rc p 1) (rv oM a (2 * q8 p) ha) (rv (rM p) (4 * q8 p) (2 * q8 p) (r1_le p))
  addP oM (rM p) k (4 * q8 p) (2 * q8 p) hk (r1_le p) (pos2 p) (sc2 p)

/-- Third exchange: the same with an eighth; -/
def send2P (p : Fin 3) (s a : Nat) (hs : s + 2 * q8 p ≤ 8192) (ha : a + q8 p ≤ 8192) (d : Dev nD) : P₀ F PUnit := do
  waitP (sn p 1) (rv (rM p) (4 * q8 p) (2 * q8 p) (r1_le p)) (rv oM s (2 * q8 p) hs)
  sendP (rv oM a (q8 p) ha) (rv (rM p) (6 * q8 p) (q8 p) (r2_le p)) d (sn p 2) (rc p 2) (scr p) ⟨⟨rfl, Or.inl rfl⟩, trivial⟩

/-- add what arrives; -/
def acc2P (p : Fin 3) (a k : Nat) (ha : a + q8 p ≤ 8192) (hk : k + q8 p ≤ 8192) : P₀ F PUnit := do
  waitP (rc p 2) (rv oM a (q8 p) ha) (rv (rM p) (6 * q8 p) (q8 p) (r2_le p))
  addP oM (rM p) k (6 * q8 p) (q8 p) hk (r2_le p) (pos1 p) (sc1 p)

/-- then place the finished eighth at its rows of the result. -/
def placeP (p : Fin 3) (s k g : Nat) (hs : s + q8 p ≤ 8192) (hk : k + q8 p ≤ 8192) (hg : g + q8 p ≤ 8192) : P₀ F PUnit := do
  waitP (sn p 2) (rv (rM p) (6 * q8 p) (q8 p) (r2_le p)) (rv oM s (q8 p) hs)
  copyP oM k g (q8 p) hk hg (pos1 p) (sc1 p)

/-- A send of finished rows to the same rows of a partner, -/
def outP (p : Fin 3) (t : Fin 7) (a n : Nat) (ha : a + n ≤ 8192) (d : Dev nD) : P₀ F PUnit :=
  sendP (rv oM a n ha) (rv oM a n ha) d (sn p t) (rc p t) rfl ⟨⟨rfl, Or.inl rfl⟩, trivial⟩
/-- the wait for the partner's, and the wait for the send to be done. -/
def outW (s : DmaSem sig) (a n : Nat) (ha : a + n ≤ 8192) : P₀ F PUnit :=
  waitP s (rv oM a n ha) (rv oM a n ha)

/-- The barrier's semaphore. -/
abbrev barS : Sem sig := (SemArray.scalar (sig.barrier 0 rfl) : Sems sig S_).sem

/-- The kernel after the barrier: the phases, each over the three bands. -/
def restP (c : Dev nD) : P₀ F PUnit := do
  startP 0 (k0_off1 c 0) (k0_off2 c 0) (k0_off3 c 0) (k0_off1_inb c 0) (k0_off2_inb c 0) (k0_off3_inb c 0) ⟨k0_dev4 c, k0_dev4_lt c⟩ ⟨k0_dev5 c, k0_dev5_lt c⟩
  startP 1 (k0_off4 c 0) (k0_off5 c 0) (k0_off6 c 0) (k0_off4_inb c 0) (k0_off5_inb c 0) (k0_off6_inb c 0) ⟨k0_dev6 c, k0_dev6_lt c⟩ ⟨k0_dev7 c, k0_dev7_lt c⟩
  startP 2 (k0_off7 c 0) (k0_off8 c 0) (k0_off9 c 0) (k0_off7_inb c 0) (k0_off8_inb c 0) (k0_off9_inb c 0) ⟨k0_dev8 c, k0_dev8_lt c⟩ ⟨k0_dev9 c, k0_dev9_lt c⟩
  acc0P 0 (k0_off1 c 0) (k0_off2 c 0) (k0_off1_inb c 0) (k0_off2_inb c 0)
  acc0P 1 (k0_off4 c 0) (k0_off5 c 0) (k0_off4_inb c 0) (k0_off5_inb c 0)
  acc0P 2 (k0_off7 c 0) (k0_off8 c 0) (k0_off7_inb c 0) (k0_off8_inb c 0)
  acc6P 0 (k0_off3 c 0) (k0_off3_inb c 0)
  acc6P 1 (k0_off6 c 0) (k0_off6_inb c 0)
  acc6P 2 (k0_off9 c 0) (k0_off9_inb c 0)
  send1P 0 (k0_off2 c 0) (k0_off3 c 0) (k0_off10 c 0) (k0_off2_inb c 0) (k0_off3_inb c 0) (k0_off10_inb c 0) ⟨k0_dev10 c, k0_dev10_lt c⟩
  send1P 1 (k0_off5 c 0) (k0_off6 c 0) (k0_off11 c 0) (k0_off5_inb c 0) (k0_off6_inb c 0) (k0_off11_inb c 0) ⟨k0_dev11 c, k0_dev11_lt c⟩
  send1P 2 (k0_off8 c 0) (k0_off9 c 0) (k0_off12 c 0) (k0_off8_inb c 0) (k0_off9_inb c 0) (k0_off12_inb c 0) ⟨k0_dev12 c, k0_dev12_lt c⟩
  acc1P 0 (k0_off10 c 0) (k0_off13 c 0) (k0_off10_inb c 0) (k0_off13_inb c 0)
  acc1P 1 (k0_off11 c 0) (k0_off14 c 0) (k0_off11_inb c 0) (k0_off14_inb c 0)
  acc1P 2 (k0_off12 c 0) (k0_off15 c 0) (k0_off12_inb c 0) (k0_off15_inb c 0)
  send2P 0 (k0_off10 c 0) (k0_off16 c 0) (k0_off10_inb c 0) (k0_off16_inb c 0) ⟨k0_dev13 c, k0_dev13_lt c⟩
  send2P 1 (k0_off11 c 0) (k0_off17 c 0) (k0_off11_inb c 0) (k0_off17_inb c 0) ⟨k0_dev14 c, k0_dev14_lt c⟩
  send2P 2 (k0_off12 c 0) (k0_off18 c 0) (k0_off12_inb c 0) (k0_off18_inb c 0) ⟨k0_dev15 c, k0_dev15_lt c⟩
  acc2P 0 (k0_off16 c 0) (k0_off19 c 0) (k0_off16_inb c 0) (k0_off19_inb c 0)
  acc2P 1 (k0_off17 c 0) (k0_off20 c 0) (k0_off17_inb c 0) (k0_off20_inb c 0)
  acc2P 2 (k0_off18 c 0) (k0_off21 c 0) (k0_off18_inb c 0) (k0_off21_inb c 0)
  placeP 0 (k0_off16 c 0) (k0_off19 c 0) (k0_off22 c 0) (k0_off16_inb c 0) (k0_off19_inb c 0) (k0_off22_inb c 0)
  placeP 1 (k0_off17 c 0) (k0_off20 c 0) (k0_off23 c 0) (k0_off17_inb c 0) (k0_off20_inb c 0) (k0_off23_inb c 0)
  placeP 2 (k0_off18 c 0) (k0_off21 c 0) (k0_off24 c 0) (k0_off18_inb c 0) (k0_off21_inb c 0) (k0_off24_inb c 0)
  outP 0 3 (k0_off25 c 0) (q8 0) (k0_off25_inb c 0) ⟨k0_dev16 c, k0_dev16_lt c⟩
  outP 1 3 (k0_off26 c 0) (q8 1) (k0_off26_inb c 0) ⟨k0_dev17 c, k0_dev17_lt c⟩
  outP 2 3 (k0_off27 c 0) (q8 2) (k0_off27_inb c 0) ⟨k0_dev18 c, k0_dev18_lt c⟩
  outW (rc 0 3) (k0_off25 c 0) (q8 0) (k0_off25_inb c 0)
  outW (rc 1 3) (k0_off26 c 0) (q8 1) (k0_off26_inb c 0)
  outW (rc 2 3) (k0_off27 c 0) (q8 2) (k0_off27_inb c 0)
  outW (sn 0 3) (k0_off25 c 0) (q8 0) (k0_off25_inb c 0)
  outP 0 4 (k0_off28 c 0) (2 * q8 0) (k0_off28_inb c 0) ⟨k0_dev19 c, k0_dev19_lt c⟩
  outW (sn 1 3) (k0_off26 c 0) (q8 1) (k0_off26_inb c 0)
  outP 1 4 (k0_off29 c 0) (2 * q8 1) (k0_off29_inb c 0) ⟨k0_dev20 c, k0_dev20_lt c⟩
  outW (sn 2 3) (k0_off27 c 0) (q8 2) (k0_off27_inb c 0)
  outP 2 4 (k0_off30 c 0) (2 * q8 2) (k0_off30_inb c 0) ⟨k0_dev21 c, k0_dev21_lt c⟩
  outW (rc 0 4) (k0_off28 c 0) (2 * q8 0) (k0_off28_inb c 0)
  outW (rc 1 4) (k0_off29 c 0) (2 * q8 1) (k0_off29_inb c 0)
  outW (rc 2 4) (k0_off30 c 0) (2 * q8 2) (k0_off30_inb c 0)
  outW (sn 0 4) (k0_off28 c 0) (2 * q8 0) (k0_off28_inb c 0)
  outP 0 5 (k0_off31 c 0) (4 * q8 0) (k0_off31_inb c 0) ⟨k0_dev22 c, k0_dev22_lt c⟩
  outW (sn 1 4) (k0_off29 c 0) (2 * q8 1) (k0_off29_inb c 0)
  outP 1 5 (k0_off32 c 0) (4 * q8 1) (k0_off32_inb c 0) ⟨k0_dev23 c, k0_dev23_lt c⟩
  outW (sn 2 4) (k0_off30 c 0) (2 * q8 2) (k0_off30_inb c 0)
  outP 2 5 (k0_off33 c 0) (4 * q8 2) (k0_off33_inb c 0) ⟨k0_dev24 c, k0_dev24_lt c⟩
  outW (rc 0 5) (k0_off31 c 0) (4 * q8 0) (k0_off31_inb c 0)
  outW (rc 1 5) (k0_off32 c 0) (4 * q8 1) (k0_off32_inb c 0)
  outW (rc 2 5) (k0_off33 c 0) (4 * q8 2) (k0_off33_inb c 0)
  outW (sn 0 5) (k0_off31 c 0) (4 * q8 0) (k0_off31_inb c 0)
  outW (sn 1 5) (k0_off32 c 0) (4 * q8 1) (k0_off32_inb c 0)
  outW (sn 2 5) (k0_off33 c 0) (4 * q8 2) (k0_off33_inb c 0)

/-- The kernel on device `c`: the barrier, then the phases. -/
def kernelP (c : Dev nD) : P₀ F PUnit := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semWaitWord barS 3#32
  restP c

set_option maxRecDepth 65536 in
/-- The printed body reads its device and is these phases. -/
theorem body_eq : bodyAt0 (F := F) t0_0 = .op .deviceId (fun c => kernelP c) := by
  rewrite [show bodyAt0 (F := F) t0_0 = cc0_body_skel (F := F) _ _ _ _ _ _ _ _ _ _ _ _ _ _ _ _ _ _ _ from
    congrFun (congrFun (congrFun (congrFun (congrFun (congrFun (congrFun (congrFun (congrFun (congrFun (congrFun (congrFun (congrFun (congrFun (congrFun (congrFun (congrFun (congrFun (congrFun cc0_body_eq_skeleton _) _) _) _) _) _) _) _) _) _) _) _) _) _) _) _) _) _) _]
  chain_rfl

end Cert.AllReduce
-- ==== Proof.Sched.lean ====
/-
# Sched: what each semaphore hands over

Every cell is used for one round. A device's barrier cell counts three units, one from each partner; the partner on axis
`e` hands over the parts of its receive buffers this device writes along that axis. A send's own cell hands the source
rows back; a receive cell hands over the rows that landed, with their contents, and on the way the rows of the sender's
result that the receiver will write later:

- transfers 0 and 6 bring the two quarters of the partner's other half of the argument;
- transfers 1 and 2 bring a quarter and an eighth of partial sums, and the sender's rows the result of transfers 4 and 3
  will land in;
- transfers 3, 4, 5 bring finished rows; 3 brings also the half of the next band the receiver will write by transfer 5.
-/
module

public import proofs.«01_k».proof.Proof.Geo

@[expose] public section

noncomputable section

namespace Cert.AllReduce

open Cert.KernelIdeal Cert.KernelIdeal.Gen Cert.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## Contents -/

/-- What device `c` holds of a band after `k` exchanges: its own value plus its `k`-th partner's, from the argument's rows. -/
def red (X : Dev nD → Tab (Elt F)) (p : Fin 3) : Fin 4 → Dev nD → Tab (Elt F)
  | 0 => X
  | 1 => fun c r j => FloatOps.addf (φ := .f32) (X c r j) (X (prt p c) r j)
  | 2 => fun c r j => FloatOps.addf (φ := .f32) (red X p 1 c r j) (red X p 1 (prt (p + 1) c) r j)
  | 3 => fun c r j => FloatOps.addf (φ := .f32) (red X p 2 c r j) (red X p 2 (prt (p + 2) c) r j)

/-- The device that finishes row `r`, and its band. -/
def Fin8 (r : Nat) (pc : Fin 3 × Dev nD) : Prop := go pc.1 pc.2 ≤ r ∧ r < go pc.1 pc.2 + q8 pc.1

instance (r : Nat) (pc : Fin 3 × Dev nD) : Decidable (Fin8 r pc) := by unfold Fin8; infer_instance

open Classical in
/-- The kernel's result: row `r` as the device that finishes it sums it. -/
def OUT (X : Dev nD → Tab (Elt F)) : Tab (Elt F) := fun r j =>
  if h : ∃ pc : Fin 3 × Dev nD, Fin8 r pc then red X h.choose.1 3 h.choose.2 r j else X 0 r j

theorem go_disj : ∀ (p : Fin 3) (c : Dev nD) (p' : Fin 3) (c' : Dev nD),
    go p c < go p' c' + q8 p' → go p' c' < go p c + q8 p → p = p' ∧ c = c' := by decide +kernel

/-- On its own rows the result is the device's own sum. -/
theorem OUT_eq (X : Dev nD → Tab (Elt F)) (p : Fin 3) (c : Dev nD) (r : Nat) (j : Nat) (h1 : go p c ≤ r) (h2 : r < go p c + q8 p) :
    OUT X r j = red X p 3 c r j := by
  unfold OUT
  have h : ∃ pc : Fin 3 × Dev nD, Fin8 r pc := ⟨(p, c), h1, h2⟩
  rw [dif_pos h]
  obtain ⟨e1, e2⟩ := go_disj h.choose.1 h.choose.2 p c (lt_of_le_of_lt h.choose_spec.1 h2) (lt_of_le_of_lt h1 h.choose_spec.2)
  rw [e1, e2]

/-! ## Transfers -/

/-- The exchange (first, second, third axis of the band) transfer `t` goes along. -/
def kOf (t : Fin 7) : Fin 3 := match t with | 0 => 0 | 1 => 1 | 2 => 2 | 3 => 2 | 4 => 1 | 5 => 0 | 6 => 0
/-- The partner in transfer `t` of band `p`. -/
def peer (c : Dev nD) (p : Fin 3) (t : Fin 7) : Dev nD := prt (p + kOf t) c
/-- The rows it moves. -/
def rows (p : Fin 3) (t : Fin 7) : Nat :=
  match t with | 0 => 2 * q8 p | 1 => 2 * q8 p | 2 => q8 p | 3 => q8 p | 4 => 2 * q8 p | 5 => 4 * q8 p | 6 => 2 * q8 p
/-- The units it credits: 128 a row. -/
def amt (p : Fin 3) (t : Fin 7) : Nat := 128 * rows p t
def amtI (p : Fin 3) : Nat := 128 * (4 * q8 p)

theorem amt_pos : ∀ (p : Fin 3) (t : Fin 7), 0 < amt p t := by decide
theorem amtI_pos : ∀ (p : Fin 3), 0 < amtI p := by decide
theorem peer_peer : ∀ (c : Dev nD) (p : Fin 3) (t : Fin 7), peer (peer c p t) p t = c := by decide

/-! ## Cells -/

/-- What a cell is for. -/
inductive Kd where
  | bar | snd (p : Fin 3) (t : Fin 7) | rcv (p : Fin 3) (t : Fin 7) | ini (p : Fin 3) | none
deriving DecidableEq

def kdN (i : Nat) : Kd :=
  if i = 0 then .none
  else if i < 25 then (if h : (i - 1) % 8 < 7 then .snd (Fin.ofNat 3 ((i - 1) / 8)) ⟨(i - 1) % 8, h⟩ else .none)
  else if i < 49 then (if h : (i - 25) % 8 < 7 then .rcv (Fin.ofNat 3 ((i - 25) / 8)) ⟨(i - 25) % 8, h⟩ else .none)
  else .ini (Fin.ofNat 3 (i - 49))

def kd : SemLoc sig → Kd
  | .reg _ => .bar
  | .dma i => kdN i.val

theorem kd_sn : ∀ (p : Fin 3) (t : Fin 7), kd (.dma (sn p t)) = .snd p t := by decide
theorem kd_rc : ∀ (p : Fin 3) (t : Fin 7), kd (.dma (rc p t)) = .rcv p t := by decide
theorem kd_inn : ∀ (p : Fin 3), kd (.dma (inn p)) = .ini p := by decide
theorem kd_bar : kd (.reg barS) = .bar := rfl

/-- The kernel's cells on a device: the barrier, then its transfers' semaphores 1 to 51. -/
def csem (i : Fin 52) : SemLoc sig := if i = 0 then .reg barS else .dma i
abbrev kcell (ck : Dev nD × Fin 52) : GSem nD τ sig := ((ck.1 : Thread nD τ), csem ck.2)
abbrev barC (c : Dev nD) : GSem nD τ sig := ((c : Thread nD τ), .reg barS)
abbrev snC (c : Dev nD) (p : Fin 3) (t : Fin 7) : GSem nD τ sig := ((c : Thread nD τ), .dma (sn p t))
abbrev rcC (c : Dev nD) (p : Fin 3) (t : Fin 7) : GSem nD τ sig := ((c : Thread nD τ), .dma (rc p t))
abbrev inC (c : Dev nD) (p : Fin 3) : GSem nD τ sig := ((c : Thread nD τ), .dma (inn p))

theorem csem_sn : ∀ p t, csem (sn p t) = .dma (sn p t) := by decide
theorem csem_rc : ∀ p t, csem (rc p t) = .dma (rc p t) := by decide
theorem csem_inn : ∀ p, csem (inn p) = .dma (inn p) := by decide

/-! ## Payloads -/

section Pay
variable (X : Dev nD → Tab (Elt F))

/-- What the partner on axis `e` hands device `c` at the barrier. -/
def barPay (c : Dev nD) (e : Fin 3) : sProp 𝕄 :=
  iprop(ownAny (prt e c) (rM e) 0 (2 * q8 e) ∗ ownAny (prt e c) (rM e) (2 * q8 e) (2 * q8 e)
    ∗ ownAny (prt e c) (rM (e + 2)) (4 * q8 (e + 2)) (2 * q8 (e + 2)) ∗ ownAny (prt e c) (rM (e + 1)) (6 * q8 (e + 1)) (q8 (e + 1)))

/-- Whether device `c`'s half of band `p` is the first. -/
def lo (p : Fin 3) (c : Dev nD) : Bool := bt p c == 0

def sndPay (c : Dev nD) (p : Fin 3) (t : Fin 7) : sProp 𝕄 :=
  match t with
  | 0 => own c xM fullShare (xo p c) (2 * q8 p) (X c) (xo p c)
  | 1 => bif lo p c then iprop(emp) else ownAny c oM (w1s p c) (2 * q8 p)
  | 2 => bif lo p c then iprop(emp) else ownAny c oM (w2s p c) (q8 p)
  | 3 => own c oM fullShare (go p c) (q8 p) (OUT X) (go p c)
  | 4 => own c oM fullShare (gq p c) (2 * q8 p) (OUT X) (gq p c)
  | 5 => own c oM fullShare (gw p c) (4 * q8 p) (OUT X) (gw p c)
  | 6 => own c xM fullShare (xo p c + 2 * q8 p) (2 * q8 p) (X c) (xo p c + 2 * q8 p)

/-- What transfer `t` of band `p` from device `d` hands device `c`. -/
def rcvPay' (c d : Dev nD) (p : Fin 3) (t : Fin 7) : sProp 𝕄 :=
  match t with
  | 0 => own c (rM p) fullShare 0 (2 * q8 p) (X d) (gw p c)
  | 1 => iprop(own c (rM p) fullShare (4 * q8 p) (2 * q8 p) (red X p 1 d) (gq p c) ∗ ownAny d oM (gq p c) (2 * q8 p))
  | 2 => iprop(own c (rM p) fullShare (6 * q8 p) (q8 p) (red X p 2 d) (go p c) ∗ ownAny d oM (go p c) (q8 p))
  | 3 => iprop(own c oM fullShare (go p d) (q8 p) (OUT X) (go p d) ∗ ownAny d oM (gw (p + 2) c) (4 * q8 (p + 2)))
  | 4 => own c oM fullShare (gq p d) (2 * q8 p) (OUT X) (gq p d)
  | 5 => own c oM fullShare (gw p d) (4 * q8 p) (OUT X) (gw p d)
  | 6 => own c (rM p) fullShare (2 * q8 p) (2 * q8 p) (X d) (gw p c + 2 * q8 p)

def rcvPay (c : Dev nD) (p : Fin 3) (t : Fin 7) : sProp 𝕄 := rcvPay' X c (peer c p t) p t

/-- The local copy hands back the argument's rows and the result's, holding them. -/
def iniPay (c : Dev nD) (p : Fin 3) : sProp 𝕄 :=
  iprop(own c oM fullShare (base p) (4 * q8 p) (X c) (gw p c) ∗ own c xM fullShare (gw p c) (4 * q8 p) (X c) (gw p c))

def payK (c : Dev nD) (k : Kd) (d : Fin 3) : sProp 𝕄 :=
  match k with
  | .bar => barPay c d
  | .snd p t => sndPay X c p t
  | .rcv p t => rcvPay X c p t
  | .ini p => iniPay X c p
  | .none => iprop(emp)

def amtK (k : Kd) : Nat := match k with | .bar => 1 | .snd p t => amt p t | .rcv p t => amt p t | .ini p => amtI p | .none => 1
def dutK (k : Kd) : Finset (Fin 3) := match k with | .bar => Finset.univ | .none => ∅ | _ => {0}

theorem amtK_pos (k : Kd) : 0 < amtK k := by
  cases k <;> first | exact Nat.one_pos | exact amt_pos _ _ | exact amtI_pos _

/-- The schedule: one round. -/
def Rd : Rounds.Schedule (GSem nD τ sig) (Fin 3) 𝕄 where
  duties g r := if r = 0 ∧ g.1.2 = .tc then dutK (kd g.2) else ∅
  unitless _ := False
  amount g _ _ := amtK (kd g.2)
  payload g _ d := payK X g.1.1 (kd g.2) d
  amount_pos g _ _ _ := amtK_pos _

instance payK_storable (c : Dev nD) (k : Kd) (d : Fin 3) : BI.Storable (upEmb : UEmb _ 𝕄) (payK X c k d) := by
  cases k with
  | bar => unfold payK barPay; infer_instance
  | snd p t => fin_cases t <;> (dsimp only [payK, sndPay]; cases lo p c <;> (try dsimp only [cond]) <;> infer_instance)
  | rcv p t => fin_cases t <;> (dsimp only [payK, rcvPay, rcvPay']; infer_instance)
  | ini p => unfold payK iniPay; infer_instance
  | none => unfold payK; infer_instance

instance Rd_payload_storable (g : GSem nD τ sig) (r : ℕ) (d : Fin 3) : BI.Storable (upEmb : UEmb _ 𝕄) ((Rd X).payload g r d) :=
  payK_storable X _ _ _

theorem duties_at (c : Dev nD) (s : SemLoc sig) : (Rd X).duties ((c : Thread nD τ), s) 0 = dutK (kd s) := by
  dsimp only [Rd]; exact if_pos ⟨rfl, rfl⟩
theorem duties_later (g : GSem nD τ sig) : ∀ r, 1 ≤ r → (Rd X).duties g r = ∅ :=
  fun r hr => if_neg fun h => by omega
theorem amount_at (g : GSem nD τ sig) (d : Fin 3) : (Rd X).amount g 0 d = amtK (kd g.2) := rfl

theorem expect_one (c : Dev nD) (s : SemLoc sig) (h : dutK (kd s) = {0}) : (Rd X).expect ((c : Thread nD τ), s) 0 = amtK (kd s) := by
  unfold Schedule.expect Schedule.amountOf
  rw [duties_at, h, Finset.sum_singleton]; rfl
theorem expect_bar (c : Dev nD) : (Rd X).expect (barC c) 0 = 3 := by
  unfold Schedule.expect Schedule.amountOf
  rw [duties_at]; rfl

theorem rest_one (c : Dev nD) (s : SemLoc sig) (h : dutK (kd s) = {0}) :
    bigSep ((Rd X).duties ((c : Thread nD τ), s) 0 \ ∅) (fun d => (Rd X).payload ((c : Thread nD τ), s) 0 d) = payK X c (kd s) 0 := by
  rw [Finset.sdiff_empty, duties_at, h, bigSep_singleton]; rfl
theorem rest_bar (c : Dev nD) :
    bigSep ((Rd X).duties (barC c) 0 \ ∅) (fun d => (Rd X).payload (barC c) 0 d) = iprop(barPay c 0 ∗ barPay c 1 ∗ barPay c 2) := by
  rw [Finset.sdiff_empty, duties_at]
  show bigSep Finset.univ (fun d => barPay c d) = _
  rw [bigSep_univ_eq_bigSepL [0, 1, 2] (by decide) (by decide), bigSepL_cons_cons, bigSepL_cons_cons, bigSepL_singleton]
  rfl
end Pay

/-! ## What is owed, and the levels -/

/-- The sends still to come, in order; the next one last added. -/
def owesL (c : Dev nD) : List (Fin 3 × Fin 7) → CellTallies nD τ sig Unit
  | [] => 0
  | pt :: l => owesL c l + tallyAt (rcC (peer c pt.1 pt.2) pt.1 pt.2) () (amt pt.1 pt.2)

/-- All sends of a device, in program order. -/
def sends : List (Fin 3 × Fin 7) :=
  [(0, 0), (0, 6), (1, 0), (1, 6), (2, 0), (2, 6), (0, 1), (1, 1), (2, 1), (0, 2), (1, 2), (2, 2),
   (0, 3), (1, 3), (2, 3), (0, 4), (1, 4), (2, 4), (0, 5), (1, 5), (2, 5)]

def O₁ (c : Dev nD) : CellTallies nD τ sig Unit := owesL c sends + tallyAt (barC (prt 2 c)) () 1
def O₂ (c : Dev nD) : CellTallies nD τ sig Unit := O₁ c + tallyAt (barC (prt 1 c)) () 1
def O₀ (c : Dev nD) : CellTallies nD τ sig Unit := O₂ c + tallyAt (barC (prt 0 c)) () 1

def lvT (t : Fin 7) : Nat := match t with | 0 => 2 | 1 => 4 | 2 => 5 | 3 => 6 | 4 => 7 | 5 => 8 | 6 => 3
theorem lvT_pos : ∀ t, 0 < lvT t := by decide
def lvK (k : Kd) : Nat := match k with | .bar => 1 | .rcv _ t => lvT t | _ => 0

def L (g : GSem nD τ sig) : Finset Unit := if g.1.2 = .tc then {()} else ∅
def lv (g : GSem nD τ sig) (_ : Unit) : ℕ := lvK (kd g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem add_pos_or {A B : CellTallies nD τ sig Unit} {g : GSem nD τ sig} {u : Unit} (h : 0 < (A + B) g u) : 0 < A g u ∨ 0 < B g u := by
  rw [Pi.add_apply, Finsupp.add_apply] at h; omega

theorem owesL_pos {c : Dev nD} {g : GSem nD τ sig} {u : Unit} : ∀ {l : List (Fin 3 × Fin 7)}, 0 < owesL c l g u →
    ∃ pt ∈ l, g = rcC (peer c pt.1 pt.2) pt.1 pt.2
  | [], h => absurd h (Nat.lt_irrefl 0)
  | pt :: l, h => by
    rcases add_pos_or h with h | h
    · obtain ⟨pt', hm, e⟩ := owesL_pos h; exact ⟨pt', List.mem_cons_of_mem _ hm, e⟩
    · exact ⟨pt, List.mem_cons_self, tally_pos h⟩

/-- A wait on a cell of level `k` is allowed when every send still owed is above it. -/
theorem mayWait (c : Dev nD) (s : SemLoc sig) (k : ℕ) (hk : lvK (kd s) ≤ k) (l : List (Fin 3 × Fin 7)) (hl : ∀ pt ∈ l, k < lvT pt.2) :
    (levAts L lv : sProp 𝕄) ⊢ MayWait (c : Thread nD τ) s () (owesL c l) :=
  MayOwe.of_cut (L := L) (lev := lv) k (fun p hp => by rw [Finset.mem_singleton.mp hp, L_tc]; exact Finset.mem_singleton_self _)
    (fun g u hg => by obtain ⟨pt, -, rfl⟩ := owesL_pos hg; exact Finset.mem_singleton_self _)
    (fun p hp => by rw [Finset.mem_singleton.mp hp]; exact hk)
    (fun g u hg => by
      obtain ⟨pt, hm, rfl⟩ := owesL_pos hg
      show k < lvK (kd (.dma (rc pt.1 pt.2)))
      rw [kd_rc]; exact hl pt hm)

/-- The pipeline's own waits, on cells of level 0, are allowed whatever is owed at launch. -/
theorem mayWait₀ (c : Dev nD) (s : SemLoc sig) (hk : lvK (kd s) = 0) :
    (levAts L lv : sProp 𝕄) ⊢ MayWait (c : Thread nD τ) s () (O₀ c) := by
  have hp : ∀ g u, 0 < O₀ c g u → (∃ pt ∈ sends, g = rcC (peer c pt.1 pt.2) pt.1 pt.2) ∨ ∃ e, g = barC (prt e c) := by
    intro g u h
    rcases add_pos_or h with h | h
    · rcases add_pos_or h with h | h
      · rcases add_pos_or h with h | h
        · exact .inl (owesL_pos h)
        · exact .inr ⟨2, tally_pos h⟩
      · exact .inr ⟨1, tally_pos h⟩
    · exact .inr ⟨0, tally_pos h⟩
  refine MayOwe.of_cut (L := L) (lev := lv) 0 (fun p hp => by rw [Finset.mem_singleton.mp hp, L_tc]; exact Finset.mem_singleton_self _)
    (fun g u hg => by rcases hp g u hg with ⟨pt, -, rfl⟩ | ⟨e, rfl⟩ <;> exact Finset.mem_singleton_self _)
    (fun p hp => by rw [Finset.mem_singleton.mp hp]; exact hk.le)
    (fun g u hg => by
      rcases hp g u hg with ⟨pt, -, rfl⟩ | ⟨e, rfl⟩
      · show 0 < lvK (kd (.dma (rc pt.1 pt.2)))
        rw [kd_rc]; exact lvT_pos pt.2
      · exact Nat.one_pos)

end Cert.AllReduce
-- ==== Proof.Steps.lean ====
/-
# Steps: one rule per operation of the kernel

Each operation's rule is stated over owned rows: a wait returns its cell's payload and the cell closed at zero, a send
gives its source rows and the target's rows, the row-wise addition and copy change the owned rows' contents.
-/
module

public import proofs.«01_k».proof.Proof.Sched
public import Idealize.ShloMosaic.Lib.Pipeline.Value

@[expose] public section

noncomputable section

namespace Cert.AllReduce

open Cert.KernelIdeal Cert.KernelIdeal.Gen Cert.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of device `c`'s body. -/
abbrev WP (c : Dev nD) (p : P₀ F PUnit) (Kt : PUnit → sProp 𝕄) : sProp 𝕄 :=
  wp frame (wpE (defs₀ (F := F)) 𝒱₀ (c : Thread nD τ) none) Set.univ p Kt

variable (X : Dev nD → Tab (Elt F)) (K : Dev nD × Fin 52 → ℕ)

/-- The invariants of all cells, that each has reached its round, and the level facts. -/
def Env : sProp 𝕄 :=
  iprop((bigSep Finset.univ fun ck : Dev nD × Fin 52 => iprop(cellInv ER (Rd X) (K ck) (kcell ck) ∗ reached ER (kcell ck) 0)) ∗ levAts L lv)

instance Env_persistent : BI.Persistent (Env X K) := by unfold Env; infer_instance

theorem env_cell (c : Dev nD) (i : Fin 52) : Env X K ⊢ iprop(cellInv ER (Rd X) (K (c, i)) (kcell (c, i)) ∗ reached ER (kcell (c, i)) 0) := by
  unfold Env
  exact sep_elim_left.trans (bigSep_elim (Φ := fun ck : Dev nD × Fin 52 => iprop(cellInv ER (Rd X) (K ck) (kcell ck) ∗ reached ER (kcell ck) 0)) (Finset.mem_univ (c, i)))

theorem env_lev : Env X K ⊢ (levAts L lv : sProp 𝕄) := by
  unfold Env; exact sep_elim_right

theorem sn_ne (p : Fin 3) (t : Fin 7) : sn p t ≠ (0 : Fin 52) := by revert p t; decide
theorem rc_ne (p : Fin 3) (t : Fin 7) : rc p t ≠ (0 : Fin 52) := by revert p t; decide
theorem inn_ne (p : Fin 3) : inn p ≠ (0 : Fin 52) := by revert p; decide

theorem csem_dma (s : DmaSem sig) (h : s ≠ (0 : Fin 52)) : csem s = .dma s := if_neg h

theorem env_dma (c : Dev nD) (s : DmaSem sig) (h : s ≠ (0 : Fin 52)) :
    Env X K ⊢ iprop(cellInv ER (Rd X) (K (c, s)) ((c : Thread nD τ), .dma s) ∗ reached ER ((c : Thread nD τ), .dma s) 0) := by
  have := env_cell X K c s
  rwa [show kcell (c, s) = ((c : Thread nD τ), SemLoc.dma s) from by unfold kcell; rw [csem_dma s h]] at this

theorem env_bar (c : Dev nD) :
    Env X K ⊢ iprop(cellInv ER (Rd X) (K (c, 0)) (barC c) ∗ reached ER (barC c) 0) := env_cell X K c 0

/-- What device `c` has accumulated of its debts, the waits it made left open. -/
def Oo (c : Dev nD) (O : CellTallies nD τ sig Unit) : sProp 𝕄 := iprop(∃ W, owes (c : Thread nD τ) O W)

/-- What a wait on cell `s` spends. -/
def At (c : Dev nD) (s : DmaSem sig) : sProp 𝕄 := atPos ER ((c : Thread nD τ), .dma s) 0 ∅ 0
def Cr (c : Dev nD) (s : DmaSem sig) : sProp 𝕄 := cred (tallyAt ((c : Thread nD τ), .dma s) () (amtK (kd (.dma s))))
/-- A cell closed at zero. -/
def Zr (c : Dev nD) (s : DmaSem sig) : sProp 𝕄 := semVal ((c : Thread nD τ), .dma s) 0

/-- A wait: the cell's payload, and the cell closed at zero. -/
theorem wp_waitP (c : Dev nD) {sp sp' : Space} {n : Nat} (s : DmaSem sig) (src : Memref sig .tc sp (RS n) .f32) (dst : Memref sig .tc sp' (RS n) .f32)
    (Kt : PUnit → sProp 𝕄) (k : ℕ) (l : List (Fin 3 × Fin 7)) (hs : s ≠ (0 : Fin 52)) (hcr : dst.view.dmaCredit = amtK (kd (.dma s)))
    (hd : dutK (kd (.dma s)) = {0}) (hk : lvK (kd (.dma s)) ≤ k) (hl : ∀ pt ∈ l, k < lvT pt.2) :
    iprop(Env X K ∗ At c s ∗ Cr c s ∗ Oo c (owesL c l))
      ⊢ iprop(((Oo c (owesL c l) ∗ Zr c s ∗ payK X c (kd (.dma s)) 0) -∗ Kt ⟨⟩) -∗ WP c (waitP s src dst) Kt) := by
  iintro ⟨#He, Hat, Hcr, HO⟩ Hk
  unfold Oo At Cr Zr
  icases HO with ⟨%W, HO⟩
  ihave ⟨#Hi, -⟩ := (env_dma X K c s hs) $$ He
  ihave #Hl := (env_lev X K) $$ He
  unfold waitP
  simp only [Prog.lift]
  iapply (Rounds.wp_wait_rest_token 𝒱₀ ER (Rd X) (c : Thread nD τ) none (κ := K (c, s))
      (wpE_waitDma2_eq 𝒱₀ (c : Thread nD τ) none Set.univ) (Set.mem_univ _) () (O := owesL c l) (W := W) (R := 0) (m := 0) (T := ∅)
      (by rw [Nat.zero_add, expect_one X c _ hd]; exact hcr)) $$ [Hcr HO Hat]
  · isplitr; · iexact Hi
    isplitl [Hcr]; · rw [hcr]; iexact Hcr
    isplitl [HO]; · iexact HO
    isplitr; · iapply (mayWait c (.dma s) k hk l hl); iexact Hl
    iexact Hat
  iintro ⟨HO, Hat, -, Hpay⟩
  ihave Hp := (Entails.of_eq (rest_one X c _ hd)) $$ Hpay
  imod (Rounds.cell_close ER (Rd X) (Set.mem_univ (K (c, s))) (fun h => h) (R := 0 + 1) (duties_later X _)) $$ [Hat] with Hz
  · isplitr; · iexact Hi
    iexact Hat
  rw [wp_ret]; imodintro
  iapply Hk
  isplitl [HO]; · iexists _; iexact HO
  isplitl [Hz]; · iexact Hz
  iexact Hp

/-- A send of one buffer piece to another, over what the landing makes of the target. -/
theorem wp_send0 (c : Dev nD) (p : Fin 3) (t : Fin 7) (b : Bool) {sp sp' : Space} {n : Nat}
    (src : Memref sig .tc sp (RS n) .f32) (dst : Memref sig .tc sp' (RS n) .f32) (hs : dst.view.ref.isScScratch = false)
    (h1 : src.view.WordExact) (h2 : dst.view.WordExact)
    (ht : DmaTarget.Typed (nD := nD) (τ := τ) (sig := sig) (p := (Proc.tc : Proc τ)) sp (.dma (rc p t)) (.remote (Dev.tc (τ := τ) (peer c p t)) dst (.dma (sn p t)) hs))
    (fs : Buf (Elt F) (src.view.loc (c : Thread nD τ))) (R : sProp 𝕄) (Kt : PUnit → sProp 𝕄) (l : List (Fin 3 × Fin 7))
    (hN : dst.view.dmaCredit = amt p t)
    (hpay₁ : (bif b then iprop(emp) else src.view.loc (c : Thread nD τ) ↦[src.view.set]{fullShare} fs) ⊢ sndPay X c p t)
    (hpay₂ : (bif b then iprop(R ∗ (src.view.loc (c : Thread nD τ) ↦[src.view.set]{fullShare} fs)) else R) ⊢ rcvPay X (peer c p t) p t) :
    iprop(Env X K ∗ (src.view.loc (c : Thread nD τ) ↦[src.view.set]{fullShare} fs)
        ∗ writeUpdate (peer c p t : Thread nD τ) dst.view (src.view.read (Elt F) fs) R ∗ Oo c (owesL c ((p, t) :: l))
        ∗ dutyTok ER (snC c p t) 0 0 ∗ dutyTok ER (rcC (peer c p t) p t) 0 0)
      ⊢ iprop(((Cr c (sn p t) ∗ Oo c (owesL c l)) -∗ Kt ⟨⟩)
        -∗ WP c (.op (.enqueueDma src (.remote (Dev.tc (τ := τ) (peer c p t)) dst (.dma (sn p t)) hs) (.dma (rc p t)) h1 h2 ht) .ret) Kt) := by
  have e1 : ((Rd X).payload (snC c p t) 0 0 : sProp 𝕄) = sndPay X c p t := by
    show payK X c (kd (.dma (sn p t))) 0 = _
    rw [kd_sn]; rfl
  have e2 : ((Rd X).payload (rcC (peer c p t) p t) 0 0 : sProp 𝕄) = rcvPay X (peer c p t) p t := by
    show payK X (peer c p t) (kd (.dma (rc p t))) 0 = _
    rw [kd_rc]; rfl
  iintro ⟨#He, Hsrc, Hdst, HO, Ht1, Ht2⟩ Hk
  unfold Oo Cr
  icases HO with ⟨%W, HO⟩
  ihave ⟨#Hi1, #Hr1⟩ := (env_dma X K c (sn p t) (sn_ne p t)) $$ He
  ihave ⟨#Hi2, #Hr2⟩ := (env_dma X K (peer c p t) (rc p t) (rc_ne p t)) $$ He
  iapply (Rounds.wp_send_bif 𝒱₀ ER (Rd X) (c : Thread nD τ) none (src := src) (dst := dst) (c' := (peer c p t : Thread nD τ)) (sem := .dma (rc p t)) (sS := .dma (sn p t)) b (κ₁ := K (c, sn p t)) (κ₂ := K (peer c p t, rc p t))
    (r₁ := 0) (r₂ := 0) (d₁ := 0) (d₂ := 0) (q := fullShare) (fs := fs) (R := R)
    (by rw [duties_at, kd_sn]; exact Finset.mem_singleton_self _) (by rw [duties_at, kd_rc]; exact Finset.mem_singleton_self _)
    () () (amt p t) hN (by rw [amount_at, kd_sn]; rfl) (by rw [amount_at, kd_rc]; rfl) (owesL c l) rfl (W := W)
    (by rw [e1]; exact hpay₁) (by rw [e2]; exact hpay₂)) $$ [Hsrc Hdst HO Ht1 Ht2]
  · isplitr; · iexact Hi1
    isplitr; · iexact Hi2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨HC, HO⟩
  rw [wp_ret]; imodintro
  iapply Hk
  isplitl [HC]
  · rw [kd_sn]; iexact HC
  iexists _; iexact HO

/-- A send: the source rows go back to the sender's cell, or on to the receiver with the landing (`b`), with what else is given (`Fr`). -/
theorem wp_sendP (c : Dev nD) (p : Fin 3) (t : Fin 7) (b : Bool) {sp : Space} {H H' a a' n : Nat}
    (M : Memref sig .tc sp (RS H) .f32) (M' : Memref sig .tc .vmem (RS H') .f32) (h : a + n ≤ H) (h' : a' + n ≤ H')
    (d : Dev nD) (hs : (rv M' a' n h').view.ref.isScScratch = false)
    (ht : DmaTarget.Typed (nD := nD) (τ := τ) (sig := sig) (p := (Proc.tc : Proc τ)) sp (.dma (rc p t)) (.remote (Dev.tc (τ := τ) d) (rv M' a' n h') (.dma (sn p t)) hs))
    (hd : d = peer c p t) (G : Tab (Elt F)) (g : Nat) (Fr : sProp 𝕄) (Kt : PUnit → sProp 𝕄) (l : List (Fin 3 × Fin 7))
    (hN : (rv M' a' n h').view.dmaCredit = amt p t)
    (hpay₁ : (bif b then iprop(emp) else own c M fullShare a n G g) ⊢ sndPay X c p t)
    (hpay₂ : (bif b then iprop((own (peer c p t) M' fullShare a' n G g ∗ Fr) ∗ own c M fullShare a n G g)
      else iprop(own (peer c p t) M' fullShare a' n G g ∗ Fr)) ⊢ rcvPay X (peer c p t) p t) :
    iprop(Env X K ∗ own c M fullShare a n G g ∗ ownAny (peer c p t) M' a' n ∗ Fr ∗ Oo c (owesL c ((p, t) :: l))
        ∗ dutyTok ER (snC c p t) 0 0 ∗ dutyTok ER (rcC (peer c p t) p t) 0 0)
      ⊢ iprop(((Cr c (sn p t) ∗ Oo c (owesL c l)) -∗ Kt ⟨⟩)
        -∗ WP c (sendP (rv M a n h) (rv M' a' n h') d (sn p t) (rc p t) hs ht) Kt) := by
  subst hd
  iintro ⟨#He, Hsrc, Hdst, HF, HO, Ht1, Ht2⟩ Hk
  ihave Hsrc := (own_slice (c : Thread nD τ) M h).1 $$ Hsrc
  icases Hsrc with ⟨%fs, %hfs, Hsrc⟩
  ihave Hdst := (ownAny_slice (peer c p t : Thread nD τ) M' h').1 $$ Hdst
  icases Hdst with ⟨%fd, Hdst⟩
  have hsrc : ((rv M a n h).view.loc (c : Thread nD τ) ↦[(rv M a n h).view.set]{fullShare} fs : sProp 𝕄) ⊢ own c M fullShare a n G g := by
    iintro H; iapply (own_slice (c : Thread nD τ) M h).2; iexists fs; isplitr; · ipureintro; exact hfs
    iexact H
  have hdst : ((rv M' a' n h').view.loc (peer c p t : Thread nD τ) ↦[(rv M' a' n h').view.set]{fullShare}
      ((rv M' a' n h').view.write (Elt F) fd ((rv M a n h).view.read (Elt F) fs) Finset.univ) : sProp 𝕄)
        ⊢ own (peer c p t) M' fullShare a' n G g := by
    rw [hfs]; exact own_written (peer c p t : Thread nD τ) M' h' fd
  unfold sendP
  simp only [Prog.lift]
  iapply (wp_send0 X K c p t b (rv M a n h) (rv M' a' n h') hs (View.wordExact_bits rfl) (View.wordExact_bits rfl) ht fs
    (iprop(((rv M' a' n h').view.loc (peer c p t : Thread nD τ) ↦[(rv M' a' n h').view.set]{fullShare}
      ((rv M' a' n h').view.write (Elt F) fd ((rv M a n h).view.read (Elt F) fs) Finset.univ)) ∗ Fr)) Kt l hN
    (by
      cases b
      · exact hsrc.trans hpay₁
      · exact hpay₁)
    (by
      cases b
      · exact (sep_mono_left hdst).trans hpay₂
      · exact (BI.sep_mono (sep_mono_left hdst) hsrc).trans hpay₂)) $$ [Hsrc Hdst HF HO Ht1 Ht2] [Hk]
  · isplitr; · iexact He
    isplitl [Hsrc]; · iexact Hsrc
    isplitl [Hdst HF]
    · iapply ((sep_mono_left (pointsTo_writeUpdate (peer c p t : Thread nD τ) (v := (rv M' a' n h').view) subset_rfl)).trans
        (writeUpdate_frame (peer c p t : Thread nD τ)))
      isplitl [Hdst]; · iexact Hdst
      iexact HF
    isplitl [HO]; · iexact HO
    isplitl [Ht1]; · iexact Ht1
    iexact Ht2
  iexact Hk

/-- The local copy of the device's half into the result. -/
theorem wp_initP (c : Dev nD) (p : Fin 3) (Kt : PUnit → sProp 𝕄) (hsem)
    (hN : (rv oM (base p) (4 * q8 p) (base_le p)).view.dmaCredit = amtI p) (ha : gw p c + 4 * q8 p ≤ 8192) :
    iprop(Env X K ∗ own c xM fullShare (gw p c) (4 * q8 p) (X c) (gw p c) ∗ ownAny c oM (base p) (4 * q8 p)
        ∗ dutyTok ER (inC c p) 0 0)
      ⊢ iprop((Cr c (inn p) -∗ Kt ⟨⟩)
        -∗ WP c (Prog.lift (.enqueueDma (rv xM (gw p c) (4 * q8 p) ha) (.here (rv oM (base p) (4 * q8 p) (base_le p))) (.dma (inn p))
    (View.wordExact_bits rfl) (View.wordExact_bits rfl) hsem)) Kt) := by
  iintro ⟨#He, Hsrc, Hdst, Ht⟩ Hk
  unfold Cr
  ihave ⟨#Hi, #Hr⟩ := (env_dma X K c (inn p) (inn_ne p)) $$ He
  ihave Hsrc := (own_slice (c : Thread nD τ) xM ha).1 $$ Hsrc
  icases Hsrc with ⟨%fs, %hfs, Hsrc⟩
  ihave Hdst := (ownAny_slice (c : Thread nD τ) oM (base_le p)).1 $$ Hdst
  icases Hdst with ⟨%fd, Hdst⟩
  simp only [Prog.lift]
  have hsrc : ((rv xM (gw p c) (4 * q8 p) ha).view.loc (c : Thread nD τ) ↦[(rv xM (gw p c) (4 * q8 p) ha).view.set]{fullShare} fs : sProp 𝕄)
      ⊢ own c xM fullShare (gw p c) (4 * q8 p) (X c) (gw p c) := by
    iintro H; iapply (own_slice (c : Thread nD τ) xM ha).2; iexists fs; isplitr; · ipureintro; exact hfs
    iexact H
  iapply (Rounds.wp_copy_pointsTo 𝒱₀ ER (Rd X) (c : Thread nD τ) none (sem := .dma (inn p)) (κ := K (c, inn p)) (r := 0) (d := 0) (q := fullShare) (fs := fs) (fd := fd)
    (by rw [duties_at, kd_inn]; exact Finset.mem_singleton_self _) () (amtI p) hN (by rw [amount_at, kd_inn]; rfl)
    (by
      show _ ⊢ payK X c (kd (.dma (inn p))) 0
      rw [kd_inn]
      show _ ⊢ iniPay X c p
      unfold iniPay
      rw [hfs]
      exact BI.sep_mono (own_written (c : Thread nD τ) oM (base_le p) fd) hsrc)) $$ [Hsrc Hdst Ht]
  · isplitr; · iexact Hi
    isplitl [Hsrc]; · iexact Hsrc
    isplitl [Hdst]; · iexact Hdst
    isplitl [Ht]; · iexact Ht
    iexact Hr
  iintro HC
  rw [wp_ret]; imodintro
  iapply Hk
  rw [kd_inn]; iexact HC

theorem load_set {H a n : Nat} (M : Memref sig .tc .vmem (RS H) .f32) (h : a + n ≤ H) :
    M.view.setOn (rr H a n h).toLoadRect.set ⊆ M.view.setOn (rowSet H a n) := by
  rw [show (rr H a n h).toLoadRect.set = rowSet H a n from rr_set h]

theorem store_set {H a n : Nat} (M : Memref sig .tc .vmem (RS H) .f32) (h : a + n ≤ H) :
    (M.access (rr H a n h)).setOn Finset.univ ⊆ M.view.setOn (rowSet H a n) := by
  rw [View.setOn_univ]; exact subset_of_eq (rv_set ((default : Dev nD) : Thread nD τ) M h)

/-- A load of owned rows reads their contents. -/
theorem wp_load_own (c : Dev nD) {H a n : Nat} (M : Memref sig .tc .vmem (RS H) .f32) (h : a + n ≤ H) (hl) (G : Tab (Elt F)) (g : Nat)
    (k : Vec F (RS n) .f32 → P₀ F PUnit) (Kt : PUnit → sProp 𝕄) :
    own c M fullShare a n G g
      ⊢ iprop((own c M fullShare a n G g -∗ WP c (k (blk G g n)) Kt) -∗ WP c (.op (.load M (rr H a n h).toLoadRect hl) k) Kt) := by
  unfold Rows.own
  iintro ⟨%f, %hf, H⟩ Hk
  iapply (wp_load 𝒱₀ (c : Thread nD τ) none Set.univ (m := M) (load_set M h)) $$ H
  iintro H
  rw [show M.view.readAt (Elt F) (rr H a n h).toLoadRect f = blk G g n from (read_rows_iff (c : Thread nD τ) M h f).mpr hf]
  iapply Hk
  iexists f; isplitr; · ipureintro; exact hf
  iexact H

/-- A load of rows of unknown contents. -/
theorem wp_load_any (c : Dev nD) {H a n : Nat} (M : Memref sig .tc .vmem (RS H) .f32) (h : a + n ≤ H) (hl)
    (k : Vec F (RS n) .f32 → P₀ F PUnit) (Kt : PUnit → sProp 𝕄) :
    ownAny c M a n
      ⊢ iprop((∀ w, ownAny c M a n -∗ WP c (k w) Kt) -∗ WP c (.op (.load M (rr H a n h).toLoadRect hl) k) Kt) := by
  unfold ownAny
  iintro ⟨%f, H⟩ Hk
  iapply (wp_load 𝒱₀ (c : Thread nD τ) none Set.univ (m := M) (load_set M h)) $$ H
  iintro H
  iapply Hk
  iexists f; iexact H

/-- A store to owned rows. -/
theorem wp_store_own (c : Dev nD) {H a n : Nat} (M : Memref sig .tc .vmem (RS H) .f32) (h : a + n ≤ H) (hx) (hm) (G : Tab (Elt F)) (g : Nat)
    (w : Vec F (RS n) .f32) (hw : w = blk G g n) (Kt : PUnit → sProp 𝕄) :
    ownAny c M a n
      ⊢ iprop((own c M fullShare a n G g -∗ Kt ⟨⟩) -∗ WP c (.op (.store M (rr H a n h) w Finset.univ hx hm) .ret) Kt) := by
  subst hw
  unfold ownAny
  iintro ⟨%f, H⟩ Hk
  iapply (wp_store 𝒱₀ (c : Thread nD τ) none Set.univ (m := M) (r := rr H a n h) (Mk := Finset.univ) (store_set M h)) $$ H
  iintro H
  rw [wp_ret]; imodintro
  iapply Hk
  iapply (own_written (c : Thread nD τ) M h f)
  rw [rv_set (c : Thread nD τ)]
  iexact H

/-- The row-wise addition. -/
theorem wp_addP (c : Dev nD) {H H' a b n : Nat} (M : Memref sig .tc .vmem (RS H) .f32) (R : Memref sig .tc .vmem (RS H') .f32)
    (ha : a + n ≤ H) (hb : b + n ≤ H') (hn) (hc) (G G' G'' : Tab (Elt F)) (g g' g'' : Nat)
    (hG : ∀ i < n, ∀ j, G'' (g'' + i) j = FloatOps.addf (φ := .f32) (G (g + i) j) (G' (g' + i) j)) (Kt : PUnit → sProp 𝕄) :
    iprop(own c M fullShare a n G g ∗ own c R fullShare b n G' g')
      ⊢ iprop(((own c M fullShare a n G'' g'' ∗ own c R fullShare b n G' g') -∗ Kt ⟨⟩) -∗ WP c (addP M R a b n ha hb hn hc) Kt) := by
  iintro ⟨HM, HR⟩ Hk
  unfold addP
  simp only [Prog.lift, Prog.bind_op, Prog.bind_ret]
  iapply (wp_load_own c M ha) $$ HM; iintro HM
  iapply (wp_load_own c R hb) $$ HR; iintro HR
  iapply (wp_load_own c M ha) $$ HM; iintro HM
  iapply (wp_store_own c M ha _ _ G'' g'' _ (by
    rw [shapeCast_self]
    funext y
    exact (hG _ (y 0).isLt _).symm)) $$ [HM]
  · iapply own_any; iexact HM
  iintro HM
  iapply Hk
  isplitl [HM]; · iexact HM
  iexact HR

/-- The row-wise copy. -/
theorem wp_copyP (c : Dev nD) {H a b n : Nat} (M : Memref sig .tc .vmem (RS H) .f32)
    (ha : a + n ≤ H) (hb : b + n ≤ H) (hn) (hc) (G : Tab (Elt F)) (g : Nat) (Kt : PUnit → sProp 𝕄) :
    iprop(own c M fullShare a n G g ∗ ownAny c M b n)
      ⊢ iprop(((own c M fullShare a n G g ∗ own c M fullShare b n G g) -∗ Kt ⟨⟩) -∗ WP c (copyP M a b n ha hb hn hc) Kt) := by
  iintro ⟨HM, HR⟩ Hk
  unfold copyP
  simp only [Prog.lift, Prog.bind_op, Prog.bind_ret]
  iapply (wp_load_own c M ha) $$ HM; iintro HM
  iapply (wp_load_any c M hb) $$ HR; iintro %w HR
  iapply (wp_store_own c M hb _ _ G g _ (by rw [shapeCast_self])) $$ HR
  iintro HR
  iapply Hk
  isplitl [HM]; · iexact HM
  iexact HR

end Cert.AllReduce
-- ==== Proof.Facts.lean ====
/-
# Facts: what the program's offsets and devices are, and how the rows of a band split

The program computes each offset and each target device from its own number; here each is the row number or partner the band's
geometry names. The rest splits a band's rows of the result along those numbers.
-/
module

public import proofs.«01_k».proof.Proof.Steps

@[expose] public section

noncomputable section

namespace Cert.AllReduce

open Cert.KernelIdeal Cert.KernelIdeal.Gen Cert.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Offsets and devices -/

/-- Where each band's half, and the two quarters of the other half, start. -/
theorem off_start : ∀ c : Dev nD,
    (k0_off1 c 0 = gw 0 c ∧ k0_off4 c 0 = gw 1 c ∧ k0_off7 c 0 = gw 2 c)
    ∧ (k0_off2 c 0 = xo 0 c ∧ k0_off5 c 0 = xo 1 c ∧ k0_off8 c 0 = xo 2 c)
    ∧ (k0_off3 c 0 = xo 0 c + 2 * q8 0 ∧ k0_off6 c 0 = xo 1 c + 2 * q8 1 ∧ k0_off9 c 0 = xo 2 c + 2 * q8 2) := by decide +kernel

/-- The working rows sent and kept in the second and third exchanges. -/
theorem off_work : ∀ c : Dev nD,
    (k0_off10 c 0 = w1s 0 c ∧ k0_off11 c 0 = w1s 1 c ∧ k0_off12 c 0 = w1s 2 c)
    ∧ (k0_off13 c 0 = w1k 0 c ∧ k0_off14 c 0 = w1k 1 c ∧ k0_off15 c 0 = w1k 2 c)
    ∧ (k0_off16 c 0 = w2s 0 c ∧ k0_off17 c 0 = w2s 1 c ∧ k0_off18 c 0 = w2s 2 c)
    ∧ (k0_off19 c 0 = w2k 0 c ∧ k0_off20 c 0 = w2k 1 c ∧ k0_off21 c 0 = w2k 2 c) := by decide +kernel

/-- The finished rows sent while gathering. -/
theorem off_out : ∀ c : Dev nD,
    (k0_off22 c 0 = go 0 c ∧ k0_off23 c 0 = go 1 c ∧ k0_off24 c 0 = go 2 c)
    ∧ (k0_off25 c 0 = go 0 c ∧ k0_off26 c 0 = go 1 c ∧ k0_off27 c 0 = go 2 c)
    ∧ (k0_off28 c 0 = gq 0 c ∧ k0_off29 c 0 = gq 1 c ∧ k0_off30 c 0 = gq 2 c)
    ∧ (k0_off31 c 0 = gw 0 c ∧ k0_off32 c 0 = gw 1 c ∧ k0_off33 c 0 = gw 2 c) := by decide +kernel

/-- The barrier signals the three partners. -/
theorem dev_bar : ∀ c : Dev nD, (⟨k0_dev1 c, k0_dev1_lt c⟩ : Dev nD) = prt 0 c ∧ (⟨k0_dev2 c, k0_dev2_lt c⟩ : Dev nD) = prt 1 c
    ∧ (⟨k0_dev3 c, k0_dev3_lt c⟩ : Dev nD) = prt 2 c := by decide +kernel

/-- The targets of the exchanges, -/
theorem dev_in : ∀ c : Dev nD,
    ((⟨k0_dev4 c, k0_dev4_lt c⟩ : Dev nD) = peer c 0 0 ∧ (⟨k0_dev5 c, k0_dev5_lt c⟩ : Dev nD) = peer c 0 6)
    ∧ ((⟨k0_dev6 c, k0_dev6_lt c⟩ : Dev nD) = peer c 1 0 ∧ (⟨k0_dev7 c, k0_dev7_lt c⟩ : Dev nD) = peer c 1 6)
    ∧ ((⟨k0_dev8 c, k0_dev8_lt c⟩ : Dev nD) = peer c 2 0 ∧ (⟨k0_dev9 c, k0_dev9_lt c⟩ : Dev nD) = peer c 2 6)
    ∧ ((⟨k0_dev10 c, k0_dev10_lt c⟩ : Dev nD) = peer c 0 1 ∧ (⟨k0_dev11 c, k0_dev11_lt c⟩ : Dev nD) = peer c 1 1
      ∧ (⟨k0_dev12 c, k0_dev12_lt c⟩ : Dev nD) = peer c 2 1)
    ∧ ((⟨k0_dev13 c, k0_dev13_lt c⟩ : Dev nD) = peer c 0 2 ∧ (⟨k0_dev14 c, k0_dev14_lt c⟩ : Dev nD) = peer c 1 2
      ∧ (⟨k0_dev15 c, k0_dev15_lt c⟩ : Dev nD) = peer c 2 2) := by decide +kernel

/-- and of the gathering. -/
theorem dev_out : ∀ c : Dev nD,
    ((⟨k0_dev16 c, k0_dev16_lt c⟩ : Dev nD) = peer c 0 3 ∧ (⟨k0_dev17 c, k0_dev17_lt c⟩ : Dev nD) = peer c 1 3
      ∧ (⟨k0_dev18 c, k0_dev18_lt c⟩ : Dev nD) = peer c 2 3)
    ∧ ((⟨k0_dev19 c, k0_dev19_lt c⟩ : Dev nD) = peer c 0 4 ∧ (⟨k0_dev20 c, k0_dev20_lt c⟩ : Dev nD) = peer c 1 4
      ∧ (⟨k0_dev21 c, k0_dev21_lt c⟩ : Dev nD) = peer c 2 4)
    ∧ ((⟨k0_dev22 c, k0_dev22_lt c⟩ : Dev nD) = peer c 0 5 ∧ (⟨k0_dev23 c, k0_dev23_lt c⟩ : Dev nD) = peer c 1 5
      ∧ (⟨k0_dev24 c, k0_dev24_lt c⟩ : Dev nD) = peer c 2 5) := by decide +kernel

/-! ## Credits: 128 units a row -/

theorem cr_x (p : Fin 3) (a : Nat) (h : a + 2 * q8 p ≤ 8192) : (rv xM a (2 * q8 p) h).view.dmaCredit = 128 * (2 * q8 p) := by
  fin_cases p <;> rfl
theorem cr_o1 (p : Fin 3) (a : Nat) (h : a + q8 p ≤ 8192) : (rv oM a (q8 p) h).view.dmaCredit = 128 * q8 p := by
  fin_cases p <;> rfl
theorem cr_o2 (p : Fin 3) (a : Nat) (h : a + 2 * q8 p ≤ 8192) : (rv oM a (2 * q8 p) h).view.dmaCredit = 128 * (2 * q8 p) := by
  fin_cases p <;> rfl
theorem cr_o4 (p : Fin 3) (a : Nat) (h : a + 4 * q8 p ≤ 8192) : (rv oM a (4 * q8 p) h).view.dmaCredit = 128 * (4 * q8 p) := by
  fin_cases p <;> rfl
theorem cr_r1 (p : Fin 3) (a : Nat) (h : a + q8 p ≤ 7 * q8 p) : (rv (rM p) a (q8 p) h).view.dmaCredit = 128 * q8 p := by
  fin_cases p <;> rfl
theorem cr_r2 (p : Fin 3) (a : Nat) (h : a + 2 * q8 p ≤ 7 * q8 p) : (rv (rM p) a (2 * q8 p) h).view.dmaCredit = 128 * (2 * q8 p) := by
  fin_cases p <;> rfl

/-! ## Rows: sums of the geometry's numbers -/

/-- The two quarters of the working half, in order: which is kept and which is sent, and their global rows. -/
theorem quarters : ∀ (p : Fin 3) (c : Dev nD),
    (w1k p c = base p ∧ w1s p c = base p + 2 * q8 p ∧ gq p c = gw p c ∧ gq p (peer c p 1) = gw p c + 2 * q8 p)
    ∨ (w1s p c = base p ∧ w1k p c = base p + 2 * q8 p ∧ gq p (peer c p 1) = gw p c ∧ gq p c = gw p c + 2 * q8 p) := by decide

/-- The two eighths of the kept quarter. -/
theorem eighths : ∀ (p : Fin 3) (c : Dev nD),
    (w2k p c = w1k p c ∧ w2s p c = w1k p c + q8 p ∧ go p c = gq p c ∧ go p (peer c p 2) = gq p c + q8 p)
    ∨ (w2s p c = w1k p c ∧ w2k p c = w1k p c + q8 p ∧ go p (peer c p 2) = gq p c ∧ go p c = gq p c + q8 p) := by decide

/-- The two halves of the band. -/
theorem halves : ∀ (p : Fin 3) (c : Dev nD),
    (lo p c = true ∧ gw p c = base p ∧ gw p (prt p c) = base p + 4 * q8 p ∧ w1k p c = gq p c ∧ w1s p c = gq p (peer c p 1)
      ∧ w2k p c = go p c ∧ w2s p c = go p (peer c p 2))
    ∨ (lo p c = false ∧ gw p (prt p c) = base p ∧ gw p c = base p + 4 * q8 p) := by decide

theorem peer0 (c : Dev nD) (p : Fin 3) : peer c p 0 = prt p c := by revert p c; decide
theorem peer5 (c : Dev nD) (p : Fin 3) : peer c p 5 = prt p c := by revert p c; decide
theorem peer6 (c : Dev nD) (p : Fin 3) : peer c p 6 = prt p c := by revert p c; decide
theorem xo_gw (c : Dev nD) (p : Fin 3) : xo p c = gw p (prt p c) := by revert p c; decide

/-! ## Splitting the owned rows -/

section Split
variable (c : Dev nD) (p : Fin 3) {H : Nat} (G : Tab (Elt F))

/-- A piece of rows, contents included, is two pieces, named in either order. -/
theorem own_two {sp : Space} (M : Memref sig .tc sp (RS H) .f32) {a n a₁ a₂ n₁ g g₁ g₂ : Nat} (hn : n = n₁ + n₁)
    (h : (a₁ = a ∧ a₂ = a + n₁ ∧ g₁ = g ∧ g₂ = g + n₁) ∨ (a₂ = a ∧ a₁ = a + n₁ ∧ g₂ = g ∧ g₁ = g + n₁)) :
    (own c M fullShare a n G g : sProp 𝕄) ⊣⊢ iprop(own c M fullShare a₁ n₁ G g₁ ∗ own c M fullShare a₂ n₁ G g₂) := by
  subst hn
  rcases h with ⟨rfl, rfl, rfl, rfl⟩ | ⟨rfl, rfl, rfl, rfl⟩
  · exact ⟨own_split (c : Thread nD τ) M, own_join (c : Thread nD τ) M⟩
  · exact ⟨(own_split (c : Thread nD τ) M).trans Laws.sep_comm.1, Laws.sep_comm.1.trans (own_join (c : Thread nD τ) M)⟩

/-- The same of rows of unknown contents. -/
theorem any_two {sp : Space} (M : Memref sig .tc sp (RS H) .f32) {a n a₁ a₂ n₁ : Nat} (hn : n = n₁ + n₁)
    (h : (a₁ = a ∧ a₂ = a + n₁) ∨ (a₂ = a ∧ a₁ = a + n₁)) :
    (ownAny c M a n : sProp 𝕄) ⊣⊢ iprop(ownAny c M a₁ n₁ ∗ ownAny c M a₂ n₁) := by
  subst hn
  rcases h with ⟨rfl, rfl⟩ | ⟨rfl, rfl⟩
  · exact ⟨ownAny_split (c : Thread nD τ) M, ownAny_join (c : Thread nD τ) M⟩
  · exact ⟨(ownAny_split (c : Thread nD τ) M).trans Laws.sep_comm.1, Laws.sep_comm.1.trans (ownAny_join (c : Thread nD τ) M)⟩

theorem two_q (n : Nat) : 2 * n = n + n := by omega
theorem four_q (n : Nat) : 4 * n = 2 * n + 2 * n := by omega

/-- The rows of its own half a device in the second half hands over with its second send, -/
def Fr1 : sProp 𝕄 := bif lo p c then iprop(emp) else ownAny c oM (gq p (peer c p 1)) (2 * q8 p)
/-- and with its third; -/
def Fr2 : sProp 𝕄 := bif lo p c then iprop(emp) else ownAny c oM (go p (peer c p 2)) (q8 p)
/-- what is left after each of the rows beyond the working half. -/
def Up1 : sProp 𝕄 := bif lo p c then ownAny c oM (base p + 4 * q8 p) (4 * q8 p) else ownAny c oM (gq p c) (2 * q8 p)
def Up2 : sProp 𝕄 := bif lo p c then ownAny c oM (base p + 4 * q8 p) (4 * q8 p) else ownAny c oM (go p c) (q8 p)

theorem hi_rows (h : lo p c = false) : gw p c = base p + 4 * q8 p := by
  rcases halves p c with ⟨hl, -⟩ | ⟨-, -, hw⟩
  · rw [h] at hl; cases hl
  · exact hw

theorem up_split1 : (ownAny c oM (base p + 4 * q8 p) (4 * q8 p) : sProp 𝕄) ⊢ iprop(Fr1 c p ∗ Up1 c p) := by
  unfold Fr1 Up1
  cases hl : lo p c
  · exact (any_two c oM (four_q _) (by
      rcases quarters p c with ⟨-, -, h1, h2⟩ | ⟨-, -, h1, h2⟩ <;> rw [hi_rows c p hl] at h1 h2
      exacts [.inr ⟨h1, h2⟩, .inl ⟨h1, h2⟩])).1
  · exact Laws.emp_sep.2

theorem up_split2 : (Up1 c p : sProp 𝕄) ⊢ iprop(Fr2 c p ∗ Up2 c p) := by
  unfold Fr2 Up1 Up2
  cases hl : lo p c
  · exact (any_two c oM (two_q _) (by rcases eighths p c with ⟨-, -, h1, h2⟩ | ⟨-, -, h1, h2⟩; exacts [.inr ⟨h1, h2⟩, .inl ⟨h1, h2⟩])).1
  · dsimp only [cond]; exact Laws.emp_sep.2

/-- The whole half its first partner works on: for a device in the first half the rows it never touched, else its working rows again. -/
theorem oth_join : iprop((bif lo p c then iprop(emp) else ownAny c oM (w1s p c) (2 * q8 p))
      ∗ (bif lo p c then iprop(emp) else ownAny c oM (w2s p c) (q8 p))
      ∗ (bif lo p c then ownAny c oM (base p + 4 * q8 p) (4 * q8 p) else ownAny c oM (w2k p c) (q8 p)))
    ⊢ (ownAny c oM (gw p (prt p c)) (4 * q8 p) : sProp 𝕄) := by
  rcases halves p c with ⟨hl, -, hw, -⟩ | ⟨hl, hw, -⟩
  · rw [hl, hw]; exact Laws.emp_sep.1.trans Laws.emp_sep.1
  · rw [hl, hw]
    dsimp only [cond]
    refine (sep_mono_right ((any_two c oM (a := w1k p c) (two_q (q8 p)) ?_).2)).trans ((any_two c oM (four_q (q8 p)) ?_).2)
    · rcases eighths p c with ⟨h1, h2, -⟩ | ⟨h1, h2, -⟩; exacts [.inr ⟨h1, h2⟩, .inl ⟨h1, h2⟩]
    · rcases quarters p c with ⟨h1, h2, -⟩ | ⟨h1, h2, -⟩; exacts [.inr ⟨h1, h2⟩, .inl ⟨h1, h2⟩]

end Split

end Cert.AllReduce
-- ==== Proof.Phases.lean ====
/-
# Phases: what each phase of a band does to what the device holds of it

`St0 … St15` are what a device holds of band `p` before the first phase and after each; every phase's rule takes one to the next.
-/
module

public import proofs.«01_k».proof.Proof.Facts

@[expose] public section

noncomputable section

namespace Cert.AllReduce

open Cert.KernelIdeal Cert.KernelIdeal.Gen Cert.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a transfer's two ends hold -/

section Defs
variable (X : Dev nD → Tab (Elt F)) (c : Dev nD) (p : Fin 3)

/-- The right to send; -/
def Tk (t : Fin 7) : sProp 𝕄 := iprop(dutyTok ER (snC c p t) 0 0 ∗ dutyTok ER (rcC (peer c p t) p t) 0 0)
/-- to wait for the partner's message; -/
def Wr (t : Fin 7) : sProp 𝕄 := iprop(At c (rc p t) ∗ Cr c (rc p t))
/-- all before the transfer; -/
def Tr (t : Fin 7) : sProp 𝕄 := iprop(Tk c p t ∗ At c (sn p t) ∗ Wr c p t)
/-- to wait for the own send to be done; -/
def Sf (t : Fin 7) : sProp 𝕄 := iprop(At c (sn p t) ∗ Cr c (sn p t))
/-- and all once it is sent. -/
def Fl (t : Fin 7) : sProp 𝕄 := iprop(Sf c p t ∗ Wr c p t)

/-! ## What a band holds after each phase -/

/-- The partner's rows the sends of the finished rows go to: the own eighth, quarter and half. -/
def T3 : sProp 𝕄 := ownAny (peer c p 3) oM (go p c) (q8 p)
def T4 : sProp 𝕄 := ownAny (peer c p 4) oM (gq p c) (2 * q8 p)
def T5 : sProp 𝕄 := ownAny (peer c p 5) oM (gw p c) (4 * q8 p)
/-- The half of the result the first partner fills. -/
def Oth : sProp 𝕄 := ownAny c oM (gw p (prt p c)) (4 * q8 p)
/-- The quarter and the eighth of working rows sent, when they come back. -/
def Rs1 : sProp 𝕄 := bif lo p c then iprop(emp) else ownAny c oM (w1s p c) (2 * q8 p)

def R3 : sProp 𝕄 := iprop(Tr c p 3 ∗ Tr c p 4 ∗ Tr c p 5)
def R2 : sProp 𝕄 := iprop((ownAny (peer c p 2) (rM p) (6 * q8 p) (q8 p) ∗ Tr c p 2) ∗ R3 c p)
def R1 : sProp 𝕄 := iprop(ownAny c oM (base p + 4 * q8 p) (4 * q8 p)
  ∗ (ownAny (peer c p 1) (rM p) (4 * q8 p) (2 * q8 p) ∗ Tr c p 1) ∗ R2 c p)

def D2 : sProp 𝕄 := iprop(own c xM fullShare (gw p c) (4 * q8 p) (X c) (gw p c) ∗ ownAny c (rM p) 0 (2 * q8 p) ∗ Zr c (inn p) ∗ Zr c (rc p 0))
def D3 : sProp 𝕄 := iprop(D2 X c p ∗ ownAny c (rM p) (2 * q8 p) (2 * q8 p) ∗ Zr c (rc p 6))
def D4 : sProp 𝕄 := iprop(D3 X c p ∗ own c xM fullShare (xo p c) (2 * q8 p) (X c) (xo p c)
  ∗ own c xM fullShare (xo p c + 2 * q8 p) (2 * q8 p) (X c) (xo p c + 2 * q8 p) ∗ Zr c (sn p 0) ∗ Zr c (sn p 6))
def D5 : sProp 𝕄 := iprop(D4 X c p ∗ ownAny c (rM p) (4 * q8 p) (2 * q8 p) ∗ Zr c (rc p 1))
def D6 : sProp 𝕄 := iprop(D5 X c p ∗ Zr c (sn p 1))
def D7 : sProp 𝕄 := iprop(D6 X c p ∗ ownAny c (rM p) (6 * q8 p) (q8 p) ∗ Zr c (rc p 2))
def D8 : sProp 𝕄 := iprop(D7 X c p ∗ Zr c (sn p 2))
def D10 : sProp 𝕄 := iprop(D8 X c p ∗ Zr c (rc p 3))
def D11 : sProp 𝕄 := iprop(D10 X c p ∗ Zr c (sn p 3))
def D12 : sProp 𝕄 := iprop(D11 X c p ∗ Zr c (rc p 4))
def D13 : sProp 𝕄 := iprop(D12 X c p ∗ Zr c (sn p 4))
def D14 : sProp 𝕄 := iprop(D13 X c p ∗ Zr c (rc p 5))
/-- All a band gives back besides the result: the argument's rows, the receive buffer's and its cells closed. -/
def D15 : sProp 𝕄 := iprop(D14 X c p ∗ Zr c (sn p 5))

def St0 : sProp 𝕄 := iprop((dutyTok ER (inC c p) 0 0 ∗ At c (inn p)) ∗ own c xM fullShare (gw p c) (4 * q8 p) (X c) (gw p c)
  ∗ own c xM fullShare (xo p c) (2 * q8 p) (X c) (xo p c)
  ∗ own c xM fullShare (xo p c + 2 * q8 p) (2 * q8 p) (X c) (xo p c + 2 * q8 p)
  ∗ ownAny c oM (base p) (4 * q8 p) ∗ (ownAny (peer c p 0) (rM p) 0 (2 * q8 p) ∗ Tr c p 0)
  ∗ (ownAny (peer c p 6) (rM p) (2 * q8 p) (2 * q8 p) ∗ Tr c p 6) ∗ R1 c p)
def St1 : sProp 𝕄 := iprop((At c (inn p) ∗ Cr c (inn p)) ∗ Fl c p 0 ∗ Fl c p 6 ∗ R1 c p)
def St2 : sProp 𝕄 := iprop(own c oM fullShare (base p) (2 * q8 p) (red X p 1 c) (gw p c)
  ∗ own c oM fullShare (base p + 2 * q8 p) (2 * q8 p) (X c) (gw p c + 2 * q8 p) ∗ Fl c p 6 ∗ Sf c p 0 ∗ D2 X c p ∗ R1 c p)
def St3 : sProp 𝕄 := iprop(own c oM fullShare (base p) (4 * q8 p) (red X p 1 c) (gw p c) ∗ Sf c p 0 ∗ Sf c p 6 ∗ D3 X c p ∗ R1 c p)
def St4 : sProp 𝕄 := iprop(own c oM fullShare (w1k p c) (2 * q8 p) (red X p 1 c) (gq p c) ∗ Fl c p 1 ∗ Up1 c p ∗ D4 X c p ∗ R2 c p)
def St5 : sProp 𝕄 := iprop(own c oM fullShare (w1k p c) (2 * q8 p) (red X p 2 c) (gq p c) ∗ Sf c p 1 ∗ Up1 c p ∗ T4 c p ∗ D5 X c p ∗ R2 c p)
def St6 : sProp 𝕄 := iprop(own c oM fullShare (w2k p c) (q8 p) (red X p 2 c) (go p c) ∗ Fl c p 2 ∗ Up2 c p ∗ Rs1 c p ∗ T4 c p ∗ D6 X c p ∗ R3 c p)
def St7 : sProp 𝕄 := iprop(own c oM fullShare (w2k p c) (q8 p) (red X p 3 c) (go p c) ∗ Sf c p 2 ∗ Up2 c p ∗ Rs1 c p ∗ T3 c p ∗ T4 c p ∗ D7 X c p ∗ R3 c p)
def St8 : sProp 𝕄 := iprop(own c oM fullShare (go p c) (q8 p) (OUT X) (go p c) ∗ T3 c p ∗ T4 c p ∗ D8 X c p ∗ R3 c p)
def St9 : sProp 𝕄 := iprop(Fl c p 3 ∗ T4 c p ∗ D8 X c p ∗ Tr c p 4 ∗ Tr c p 5)
def St10 : sProp 𝕄 := iprop(own c oM fullShare (go p (peer c p 3)) (q8 p) (OUT X) (go p (peer c p 3)) ∗ Sf c p 3 ∗ T4 c p ∗ D10 X c p ∗ Tr c p 4 ∗ Tr c p 5)
def St11 : sProp 𝕄 := iprop(Fl c p 4 ∗ D11 X c p ∗ Tr c p 5)
def St12 : sProp 𝕄 := iprop(own c oM fullShare (gq p (peer c p 4)) (2 * q8 p) (OUT X) (gq p (peer c p 4)) ∗ Sf c p 4 ∗ D12 X c p ∗ Tr c p 5)
def St13 : sProp 𝕄 := iprop(Fl c p 5 ∗ D13 X c p)
def St14 : sProp 𝕄 := iprop(own c oM fullShare (gw p (peer c p 5)) (4 * q8 p) (OUT X) (gw p (peer c p 5)) ∗ Sf c p 5 ∗ D14 X c p)
def St15 : sProp 𝕄 := iprop(own c oM fullShare (gw p (peer c p 5)) (4 * q8 p) (OUT X) (gw p (peer c p 5))
  ∗ own c oM fullShare (gw p c) (4 * q8 p) (OUT X) (gw p c) ∗ D15 X c p)

end Defs

variable (X : Dev nD → Tab (Elt F)) (K : Dev nD × Fin 52 → ℕ)

/-! ## Waits by kind of cell -/

section Waits
variable (c : Dev nD) (p : Fin 3) (t : Fin 7) {sp sp' : Space} {n : Nat} (src : Memref sig .tc sp (RS n) .f32) (dst : Memref sig .tc sp' (RS n) .f32) (l : List (Fin 3 × Fin 7))

/-- The wait for the own send to be done, -/
theorem wp_waitS (Kt : PUnit → sProp 𝕄) (hcr : dst.view.dmaCredit = amt p t) :
    iprop(Env X K ∗ Sf c p t ∗ Oo c (owesL c l))
      ⊢ iprop(((Oo c (owesL c l) ∗ Zr c (sn p t) ∗ sndPay X c p t) -∗ Kt ⟨⟩) -∗ WP c (waitP (sn p t) src dst) Kt) := by
  unfold Sf
  iintro ⟨#He, ⟨Ha, Hc⟩, HO⟩ Hk
  iapply (wp_waitP X K c (sn p t) src dst Kt 0 l (sn_ne p t) (by rw [kd_sn]; exact hcr) (by rw [kd_sn]; rfl) (by rw [kd_sn]; exact le_rfl)
    (fun pt _ => lvT_pos pt.2)) $$ [Ha Hc HO]
  · isplitr; · iexact He
    isplitl [Ha]; · iexact Ha
    isplitl [Hc]; · iexact Hc
    iexact HO
  rw [kd_sn]
  iexact Hk

/-- the wait for the partner's message, -/
theorem wp_waitR (Kt : PUnit → sProp 𝕄) (hcr : dst.view.dmaCredit = amt p t) (hl : ∀ pt ∈ l, lvT t < lvT pt.2) :
    iprop(Env X K ∗ Wr c p t ∗ Oo c (owesL c l))
      ⊢ iprop(((Oo c (owesL c l) ∗ Zr c (rc p t) ∗ rcvPay X c p t) -∗ Kt ⟨⟩) -∗ WP c (waitP (rc p t) src dst) Kt) := by
  unfold Wr
  iintro ⟨#He, ⟨Ha, Hc⟩, HO⟩ Hk
  iapply (wp_waitP X K c (rc p t) src dst Kt (lvT t) l (rc_ne p t) (by rw [kd_rc]; exact hcr) (by rw [kd_rc]; rfl) (by rw [kd_rc]; exact le_rfl)
    hl) $$ [Ha Hc HO]
  · isplitr; · iexact He
    isplitl [Ha]; · iexact Ha
    isplitl [Hc]; · iexact Hc
    iexact HO
  rw [kd_rc]
  iexact Hk

/-- the wait for the local copy. -/
theorem wp_waitI (Kt : PUnit → sProp 𝕄) (hcr : dst.view.dmaCredit = amtI p) :
    iprop(Env X K ∗ (At c (inn p) ∗ Cr c (inn p)) ∗ Oo c (owesL c l))
      ⊢ iprop(((Oo c (owesL c l) ∗ Zr c (inn p) ∗ iniPay X c p) -∗ Kt ⟨⟩) -∗ WP c (waitP (inn p) src dst) Kt) := by
  iintro ⟨#He, ⟨Ha, Hc⟩, HO⟩ Hk
  iapply (wp_waitP X K c (inn p) src dst Kt 0 l (inn_ne p) (by rw [kd_inn]; exact hcr) (by rw [kd_inn]; rfl) (by rw [kd_inn]; exact le_rfl)
    (fun pt _ => lvT_pos pt.2)) $$ [Ha Hc HO]
  · isplitr; · iexact He
    isplitl [Ha]; · iexact Ha
    isplitl [Hc]; · iexact Hc
    iexact HO
  rw [kd_inn]
  iexact Hk

end Waits

/-- The message a device gets in transfer `t` from its partner, seen from the sender. -/
theorem rcv_peer (c : Dev nD) (p : Fin 3) (t : Fin 7) : rcvPay X (peer c p t) p t = rcvPay' X (peer c p t) c p t := by
  unfold rcvPay; rw [peer_peer]

/-- A send, its transfer's rights in one. -/
theorem wp_tr (c : Dev nD) (p : Fin 3) (t : Fin 7) (b : Bool) {sp : Space} {H H' a a' n : Nat}
    (M : Memref sig .tc sp (RS H) .f32) (M' : Memref sig .tc .vmem (RS H') .f32) (h : a + n ≤ H) (h' : a' + n ≤ H')
    (d : Dev nD) (hs : (rv M' a' n h').view.ref.isScScratch = false)
    (ht : DmaTarget.Typed (nD := nD) (τ := τ) (sig := sig) (p := (Proc.tc : Proc τ)) sp (.dma (rc p t)) (.remote (Dev.tc (τ := τ) d) (rv M' a' n h') (.dma (sn p t)) hs))
    (hd : d = peer c p t) (G : Tab (Elt F)) (g : Nat) (Fr : sProp 𝕄) (Kt : PUnit → sProp 𝕄) (l : List (Fin 3 × Fin 7))
    (hN : (rv M' a' n h').view.dmaCredit = amt p t)
    (hpay₁ : (bif b then iprop(emp) else own c M fullShare a n G g) ⊢ sndPay X c p t)
    (hpay₂ : (bif b then iprop((own (peer c p t) M' fullShare a' n G g ∗ Fr) ∗ own c M fullShare a n G g)
      else iprop(own (peer c p t) M' fullShare a' n G g ∗ Fr)) ⊢ rcvPay' X (peer c p t) c p t) :
    iprop(Env X K ∗ Oo c (owesL c ((p, t) :: l)) ∗ own c M fullShare a n G g ∗ ownAny (peer c p t) M' a' n ∗ Fr ∗ Tr c p t)
      ⊢ iprop(((Oo c (owesL c l) ∗ Fl c p t) -∗ Kt ⟨⟩) -∗ WP c (sendP (rv M a n h) (rv M' a' n h') d (sn p t) (rc p t) hs ht) Kt) := by
  unfold Tr Tk Fl Sf
  iintro ⟨#He, HO, Hs, Hd, HF, ⟨Ht1, Ht2⟩, Ha, Hw⟩ Hk
  iapply (wp_sendP X K c p t b M M' h h' d hs ht hd G g Fr Kt l hN hpay₁ (by rw [rcv_peer]; exact hpay₂)) $$ [HO Hs Hd HF Ht1 Ht2]
  · isplitr; · iexact He
    isplitl [Hs]; · iexact Hs
    isplitl [Hd]; · iexact Hd
    isplitl [HF]; · iexact HF
    isplitl [HO]; · iexact HO
    isplitl [Ht1]; · iexact Ht1
    iexact Ht2
  iintro ⟨Hc, HO⟩
  iapply Hk
  isplitl [HO]; · iexact HO
  isplitr [Hw]
  · isplitl [Ha]; · iexact Ha
    iexact Hc
  iexact Hw

/-! ## The phases -/

section Spec
variable (c : Dev nD) (p : Fin 3) (l : List (Fin 3 × Fin 7))

theorem start_spec (Kt : PUnit → sProp 𝕄) {a s s' : Nat} {ha : a + 4 * q8 p ≤ 8192} {hs : s + 2 * q8 p ≤ 8192} {hs' : s' + 2 * q8 p ≤ 8192} {d d' : Dev nD}
    (ea : a = gw p c) (es : s = xo p c) (es' : s' = xo p c + 2 * q8 p) (hd : d = peer c p 0) (hd' : d' = peer c p 6) :
    iprop(Env X K ∗ Oo c (owesL c ((p, 0) :: (p, 6) :: l)) ∗ St0 X c p)
      ⊢ iprop(((Oo c (owesL c l) ∗ St1 c p) -∗ Kt ⟨⟩) -∗ WP c (startP p a s s' ha hs hs' d d') Kt) := by
  subst ea es es'
  unfold St0 St1 startP
  simp only [wp_bind]
  iintro ⟨#He, HO, ⟨Hti, Hai⟩, Hx, Hx0, Hx6, Ho, ⟨Hd0, Htr0⟩, ⟨Hd6, Htr6⟩, HR⟩ Hk
  iapply (wp_initP X K c p _ _ (cr_o4 p _ _) ha) $$ [Hti Hx Ho]
  · isplitr; · iexact He
    isplitl [Hx]; · iexact Hx
    isplitl [Ho]; · iexact Ho
    iexact Hti
  iintro Hci
  iapply (wp_tr X K c p 0 false xM (rM p) _ _ _ _ _ hd (X c) (xo p c) iprop(emp) _ ((p, 6) :: l) (cr_r2 p _ _) .rfl
    (by rw [xo_gw, ← peer0]; exact Laws.sep_emp.1)) $$ [HO Hx0 Hd0 Htr0]
  · isplitr; · iexact He
    isplitl [HO]; · iexact HO
    isplitl [Hx0]; · iexact Hx0
    isplitl [Hd0]; · iexact Hd0
    isplitr; · iempintro
    iexact Htr0
  iintro ⟨HO, HF0⟩
  iapply (wp_tr X K c p 6 false xM (rM p) _ _ _ _ _ hd' (X c) (xo p c + 2 * q8 p) iprop(emp) _ l (cr_r2 p _ _) .rfl
    (by rw [xo_gw, ← peer6]; exact Laws.sep_emp.1)) $$ [HO Hx6 Hd6 Htr6]
  · isplitr; · iexact He
    isplitl [HO]; · iexact HO
    isplitl [Hx6]; · iexact Hx6
    isplitl [Hd6]; · iexact Hd6
    isplitr; · iempintro
    iexact Htr6
  iintro ⟨HO, HF6⟩
  iapply Hk
  isplitl [HO]; · iexact HO
  isplitl [Hai Hci]
  · isplitl [Hai]; · iexact Hai
    iexact Hci
  isplitl [HF0]; · iexact HF0
  isplitl [HF6]; · iexact HF6
  iexact HR

theorem red1 (i j : Nat) (g : Nat) : red X p 1 c (g + i) j = FloatOps.addf (φ := .f32) (X c (g + i) j) (X (peer c p 0) (g + i) j) := by
  rw [peer0]; simp only [red]

theorem red2 (r j : Nat) : red X p 2 c r j = FloatOps.addf (φ := .f32) (red X p 1 c r j) (red X p 1 (peer c p 1) r j) := by
  conv_lhs => rw [red]
  rfl
theorem red3 (r j : Nat) : red X p 3 c r j = FloatOps.addf (φ := .f32) (red X p 2 c r j) (red X p 2 (peer c p 2) r j) := by
  conv_lhs => rw [red]
  rfl

theorem own_halves {H : Nat} (M : Memref sig .tc .vmem (RS H) .f32) (n a g : Nat) (G : Tab (Elt F)) :
    (own c M fullShare a (4 * n) G g : sProp 𝕄)
      ⊣⊢ iprop(own c M fullShare a (2 * n) G g ∗ own c M fullShare (a + 2 * n) (2 * n) G (g + 2 * n)) :=
  own_two c G M (four_q n) (.inl ⟨rfl, rfl, rfl, rfl⟩)

theorem acc0_spec (Kt : PUnit → sProp 𝕄) {a s : Nat} {ha : a + 4 * q8 p ≤ 8192} {hs : s + 2 * q8 p ≤ 8192}
    (hl : ∀ pt ∈ l, lvT 0 < lvT pt.2) :
    iprop(Env X K ∗ Oo c (owesL c l) ∗ St1 c p)
      ⊢ iprop(((Oo c (owesL c l) ∗ St2 X c p) -∗ Kt ⟨⟩) -∗ WP c (acc0P p a s ha hs) Kt) := by
  unfold St1 St2 Fl D2 acc0P
  simp only [wp_bind]
  iintro ⟨#He, HO, Hin, ⟨Hs0, Hw0⟩, Hf6, HR⟩ Hk
  iapply (wp_waitR X K c p 0 _ _ l _ (cr_r2 p _ _) hl) $$ [HO Hw0]
  · isplitr; · iexact He
    isplitl [Hw0]; · iexact Hw0
    iexact HO
  iintro ⟨HO, Hz0, Hr⟩
  ihave Hr := (show (rcvPay X c p 0 : sProp 𝕄) ⊢ own c (rM p) fullShare 0 (2 * q8 p) (X (peer c p 0)) (gw p c) from .rfl) $$ Hr
  iapply (wp_waitI X K c p _ _ l _ (cr_o4 p _ _)) $$ [HO Hin]
  · isplitr; · iexact He
    isplitl [Hin]; · iexact Hin
    iexact HO
  iintro ⟨HO, Hzi, Hi⟩
  unfold iniPay
  icases Hi with ⟨Ho, Hx⟩
  ihave ⟨Ho, Ho'⟩ := (own_halves c oM (q8 p) (base p) (gw p c) (X c)).1 $$ Ho
  iapply (wp_addP c oM (rM p) _ _ _ _ (X c) (X (peer c p 0)) (red X p 1 c) (gw p c) (gw p c) (gw p c)
    (fun i _ j => red1 X c p i j _)) $$ [Ho Hr]
  · isplitl [Ho]; · iexact Ho
    iexact Hr
  iintro ⟨Ho, Hr⟩
  iapply Hk
  isplitl [HO]; · iexact HO
  isplitl [Ho]; · iexact Ho
  isplitl [Ho']; · iexact Ho'
  isplitl [Hf6]; · iexact Hf6
  isplitl [Hs0]; · iexact Hs0
  isplitr [HR]
  · isplitl [Hx]; · iexact Hx
    isplitl [Hr]; · iapply own_any; iexact Hr
    isplitl [Hzi]; · iexact Hzi
    iexact Hz0
  iexact HR

theorem acc6_spec (Kt : PUnit → sProp 𝕄) {s : Nat} {hs : s + 2 * q8 p ≤ 8192} (hl : ∀ pt ∈ l, lvT 6 < lvT pt.2) :
    iprop(Env X K ∗ Oo c (owesL c l) ∗ St2 X c p)
      ⊢ iprop(((Oo c (owesL c l) ∗ St3 X c p) -∗ Kt ⟨⟩) -∗ WP c (acc6P p s hs) Kt) := by
  unfold St2 St3 Fl D3 acc6P
  simp only [wp_bind]
  iintro ⟨#He, HO, Ho, Ho', ⟨Hs6, Hw6⟩, Hs0, HD, HR⟩ Hk
  iapply (wp_waitR X K c p 6 _ _ l _ (cr_r2 p _ _) hl) $$ [HO Hw6]
  · isplitr; · iexact He
    isplitl [Hw6]; · iexact Hw6
    iexact HO
  iintro ⟨HO, Hz6, Hr⟩
  ihave Hr := (show (rcvPay X c p 6 : sProp 𝕄) ⊢ own c (rM p) fullShare (2 * q8 p) (2 * q8 p) (X (peer c p 6)) (gw p c + 2 * q8 p) from .rfl) $$ Hr
  iapply (wp_addP c oM (rM p) _ _ _ _ (X c) (X (peer c p 6)) (red X p 1 c) (gw p c + 2 * q8 p) (gw p c + 2 * q8 p) (gw p c + 2 * q8 p)
    (fun i _ j => by rw [peer6, ← peer0]; exact red1 X c p i j _)) $$ [Ho' Hr]
  · isplitl [Ho']; · iexact Ho'
    iexact Hr
  iintro ⟨Ho', Hr⟩
  iapply Hk
  isplitl [HO]; · iexact HO
  isplitl [Ho Ho']
  · iapply (own_halves c oM (q8 p) (base p) (gw p c) (red X p 1 c)).2
    isplitl [Ho]; · iexact Ho
    iexact Ho'
  isplitl [Hs0]; · iexact Hs0
  isplitl [Hs6]; · iexact Hs6
  isplitr [HR]
  · isplitl [HD]; · iexact HD
    isplitl [Hr]; · iapply own_any; iexact Hr
    iexact Hz6
  iexact HR

theorem quart_rows : (w1k p c = base p ∧ w1s p c = base p + 2 * q8 p ∧ gq p c = gw p c ∧ gq p (peer c p 1) = gw p c + 2 * q8 p)
    ∨ (w1s p c = base p ∧ w1k p c = base p + 2 * q8 p ∧ gq p (peer c p 1) = gw p c ∧ gq p c = gw p c + 2 * q8 p) := quarters p c

theorem lo_w1s (h : lo p c = true) : w1s p c = gq p (peer c p 1) := by
  rcases halves p c with ⟨-, -, -, -, e, -⟩ | ⟨hl, -⟩
  · exact e
  · rw [h] at hl; cases hl

theorem lo_w2s (h : lo p c = true) : w2s p c = go p (peer c p 2) := by
  rcases halves p c with ⟨-, -, -, -, -, -, e⟩ | ⟨hl, -⟩
  · exact e
  · rw [h] at hl; cases hl

theorem lo_w2k (h : lo p c = true) : w2k p c = go p c := by
  rcases halves p c with ⟨-, -, -, -, -, e, -⟩ | ⟨hl, -⟩
  · exact e
  · rw [h] at hl; cases hl

/-- The second send hands the partner its quarter of sums and the rows it will fill, wherever the sender has them. -/
theorem pay1 : (bif lo p c then iprop((own (peer c p 1) (rM p) fullShare (4 * q8 p) (2 * q8 p) (red X p 1 c) (gq p (peer c p 1)) ∗ Fr1 c p)
        ∗ own c oM fullShare (w1s p c) (2 * q8 p) (red X p 1 c) (gq p (peer c p 1)))
      else iprop(own (peer c p 1) (rM p) fullShare (4 * q8 p) (2 * q8 p) (red X p 1 c) (gq p (peer c p 1)) ∗ Fr1 c p) : sProp 𝕄)
    ⊢ rcvPay' X (peer c p 1) c p 1 := by
  unfold rcvPay' Fr1
  cases h : lo p c
  · exact .rfl
  · dsimp only [cond]
    rw [lo_w1s c p h]
    exact (sep_mono_left Laws.sep_emp.1).trans (sep_mono_right (own_any _ _))

theorem pay2 : (bif lo p c then iprop((own (peer c p 2) (rM p) fullShare (6 * q8 p) (q8 p) (red X p 2 c) (go p (peer c p 2)) ∗ Fr2 c p)
        ∗ own c oM fullShare (w2s p c) (q8 p) (red X p 2 c) (go p (peer c p 2)))
      else iprop(own (peer c p 2) (rM p) fullShare (6 * q8 p) (q8 p) (red X p 2 c) (go p (peer c p 2)) ∗ Fr2 c p) : sProp 𝕄)
    ⊢ rcvPay' X (peer c p 2) c p 2 := by
  unfold rcvPay' Fr2
  cases h : lo p c
  · exact .rfl
  · dsimp only [cond]
    rw [lo_w2s c p h]
    exact (sep_mono_left Laws.sep_emp.1).trans (sep_mono_right (own_any _ _))

theorem send1_spec (Kt : PUnit → sProp 𝕄) {s s' a : Nat} {hs : s + 2 * q8 p ≤ 8192} {hs' : s' + 2 * q8 p ≤ 8192} {ha : a + 2 * q8 p ≤ 8192}
    {d : Dev nD} (ea : a = w1s p c) (hd : d = peer c p 1) :
    iprop(Env X K ∗ Oo c (owesL c ((p, 1) :: l)) ∗ St3 X c p)
      ⊢ iprop(((Oo c (owesL c l) ∗ St4 X c p) -∗ Kt ⟨⟩) -∗ WP c (send1P p s s' a hs hs' ha d) Kt) := by
  subst ea
  unfold St3 St4 D4 R1 send1P
  simp only [wp_bind]
  iintro ⟨#He, HO, Ho, Hs0, Hs6, HD, Hup, ⟨Hd, Htr⟩, HR⟩ Hk
  iapply (wp_waitS X K c p 0 _ _ _ _ (cr_x p _ _)) $$ [HO Hs0]
  · isplitr; · iexact He
    isplitl [Hs0]; · iexact Hs0
    iexact HO
  iintro ⟨HO, Hz0, Hx⟩
  ihave Hx := (show (sndPay X c p 0 : sProp 𝕄) ⊢ own c xM fullShare (xo p c) (2 * q8 p) (X c) (xo p c) from .rfl) $$ Hx
  iapply (wp_waitS X K c p 6 _ _ _ _ (cr_x p _ _)) $$ [HO Hs6]
  · isplitr; · iexact He
    isplitl [Hs6]; · iexact Hs6
    iexact HO
  iintro ⟨HO, Hz6, Hx'⟩
  ihave Hx' := (show (sndPay X c p 6 : sProp 𝕄) ⊢ own c xM fullShare (xo p c + 2 * q8 p) (2 * q8 p) (X c) (xo p c + 2 * q8 p) from .rfl) $$ Hx'
  ihave ⟨Hk', Hs⟩ := (own_two c (red X p 1 c) oM (four_q (q8 p)) (quart_rows c p)).1 $$ Ho
  ihave ⟨HF, Hup⟩ := (up_split1 c p) $$ Hup
  iapply (wp_tr X K c p 1 (lo p c) oM (rM p) _ _ _ _ _ hd (red X p 1 c) (gq p (peer c p 1)) (Fr1 c p) _ l (cr_r2 p _ _)
    (by
      dsimp only [sndPay]
      cases lo p c
      · exact own_any _ _
      · exact .rfl) (pay1 X c p)) $$ [HO Hs Hd HF Htr]
  · isplitr; · iexact He
    isplitl [HO]; · iexact HO
    isplitl [Hs]; · iexact Hs
    isplitl [Hd]; · iexact Hd
    isplitl [HF]; · iexact HF
    iexact Htr
  iintro ⟨HO, HFl⟩
  iapply Hk
  isplitl [HO]; · iexact HO
  isplitl [Hk']; · iexact Hk'
  isplitl [HFl]; · iexact HFl
  isplitl [Hup]; · iexact Hup
  isplitr [HR]
  · isplitl [HD]; · iexact HD
    isplitl [Hx]; · iexact Hx
    isplitl [Hx']; · iexact Hx'
    isplitl [Hz0]; · iexact Hz0
    iexact Hz6
  iexact HR

theorem acc1_spec (Kt : PUnit → sProp 𝕄) {a k : Nat} {ha : a + 2 * q8 p ≤ 8192} {hk : k + 2 * q8 p ≤ 8192} (ek : k = w1k p c)
    (hl : ∀ pt ∈ l, lvT 1 < lvT pt.2) :
    iprop(Env X K ∗ Oo c (owesL c l) ∗ St4 X c p)
      ⊢ iprop(((Oo c (owesL c l) ∗ St5 X c p) -∗ Kt ⟨⟩) -∗ WP c (acc1P p a k ha hk) Kt) := by
  subst ek
  unfold St4 St5 Fl D5 T4 acc1P
  simp only [wp_bind]
  iintro ⟨#He, HO, Ho, ⟨Hs, Hw⟩, Hup, HD, HR⟩ Hk
  iapply (wp_waitR X K c p 1 _ _ l _ (cr_r2 p _ _) hl) $$ [HO Hw]
  · isplitr; · iexact He
    isplitl [Hw]; · iexact Hw
    iexact HO
  iintro ⟨HO, Hz, Hr⟩
  ihave ⟨Hr, HT⟩ := (show (rcvPay X c p 1 : sProp 𝕄) ⊢ iprop(own c (rM p) fullShare (4 * q8 p) (2 * q8 p) (red X p 1 (peer c p 1)) (gq p c)
    ∗ ownAny (peer c p 4) oM (gq p c) (2 * q8 p)) from .rfl) $$ Hr
  iapply (wp_addP c oM (rM p) _ _ _ _ (red X p 1 c) (red X p 1 (peer c p 1)) (red X p 2 c) (gq p c) (gq p c) (gq p c)
    (fun i _ j => red2 X c p _ _)) $$ [Ho Hr]
  · isplitl [Ho]; · iexact Ho
    iexact Hr
  iintro ⟨Ho, Hr⟩
  iapply Hk
  isplitl [HO]; · iexact HO
  isplitl [Ho]; · iexact Ho
  isplitl [Hs]; · iexact Hs
  isplitl [Hup]; · iexact Hup
  isplitl [HT]; · iexact HT
  isplitr [HR]
  · isplitl [HD]; · iexact HD
    isplitl [Hr]; · iapply own_any; iexact Hr
    iexact Hz
  iexact HR

theorem send2_spec (Kt : PUnit → sProp 𝕄) {s a : Nat} {hs : s + 2 * q8 p ≤ 8192} {ha : a + q8 p ≤ 8192} {d : Dev nD}
    (ea : a = w2s p c) (hd : d = peer c p 2) :
    iprop(Env X K ∗ Oo c (owesL c ((p, 2) :: l)) ∗ St5 X c p)
      ⊢ iprop(((Oo c (owesL c l) ∗ St6 X c p) -∗ Kt ⟨⟩) -∗ WP c (send2P p s a hs ha d) Kt) := by
  subst ea
  unfold St5 St6 D6 R2 Rs1 send2P
  simp only [wp_bind]
  iintro ⟨#He, HO, Ho, Hs, Hup, HT, HD, ⟨Hd, Htr⟩, HR⟩ Hk
  iapply (wp_waitS X K c p 1 _ _ _ _ (cr_o2 p _ _)) $$ [HO Hs]
  · isplitr; · iexact He
    isplitl [Hs]; · iexact Hs
    iexact HO
  iintro ⟨HO, Hz, Hrs⟩
  ihave Hrs := (show (sndPay X c p 1 : sProp 𝕄) ⊢ (bif lo p c then iprop(emp) else ownAny c oM (w1s p c) (2 * q8 p)) from .rfl) $$ Hrs
  ihave ⟨Hk', Hs⟩ := (own_two c (red X p 2 c) oM (two_q (q8 p)) (eighths p c)).1 $$ Ho
  ihave ⟨HF, Hup⟩ := (up_split2 c p) $$ Hup
  iapply (wp_tr X K c p 2 (lo p c) oM (rM p) _ _ _ _ _ hd (red X p 2 c) (go p (peer c p 2)) (Fr2 c p) _ l (cr_r1 p _ _)
    (by
      dsimp only [sndPay]
      cases lo p c
      · exact own_any _ _
      · exact .rfl) (pay2 X c p)) $$ [HO Hs Hd HF Htr]
  · isplitr; · iexact He
    isplitl [HO]; · iexact HO
    isplitl [Hs]; · iexact Hs
    isplitl [Hd]; · iexact Hd
    isplitl [HF]; · iexact HF
    iexact Htr
  iintro ⟨HO, HFl⟩
  iapply Hk
  isplitl [HO]; · iexact HO
  isplitl [Hk']; · iexact Hk'
  isplitl [HFl]; · iexact HFl
  isplitl [Hup]; · iexact Hup
  isplitl [Hrs]; · iexact Hrs
  isplitl [HT]; · iexact HT
  isplitr [HR]
  · isplitl [HD]; · iexact HD
    iexact Hz
  iexact HR

theorem acc2_spec (Kt : PUnit → sProp 𝕄) {a k : Nat} {ha : a + q8 p ≤ 8192} {hk : k + q8 p ≤ 8192} (ek : k = w2k p c)
    (hl : ∀ pt ∈ l, lvT 2 < lvT pt.2) :
    iprop(Env X K ∗ Oo c (owesL c l) ∗ St6 X c p)
      ⊢ iprop(((Oo c (owesL c l) ∗ St7 X c p) -∗ Kt ⟨⟩) -∗ WP c (acc2P p a k ha hk) Kt) := by
  subst ek
  unfold St6 St7 Fl D7 T3 acc2P
  simp only [wp_bind]
  iintro ⟨#He, HO, Ho, ⟨Hs, Hw⟩, Hup, Hrs, HT, HD, HR⟩ Hk
  iapply (wp_waitR X K c p 2 _ _ l _ (cr_r1 p _ _) hl) $$ [HO Hw]
  · isplitr; · iexact He
    isplitl [Hw]; · iexact Hw
    iexact HO
  iintro ⟨HO, Hz, Hr⟩
  ihave ⟨Hr, HT3⟩ := (show (rcvPay X c p 2 : sProp 𝕄) ⊢ iprop(own c (rM p) fullShare (6 * q8 p) (q8 p) (red X p 2 (peer c p 2)) (go p c)
    ∗ ownAny (peer c p 3) oM (go p c) (q8 p)) from .rfl) $$ Hr
  iapply (wp_addP c oM (rM p) _ _ _ _ (red X p 2 c) (red X p 2 (peer c p 2)) (red X p 3 c) (go p c) (go p c) (go p c)
    (fun i _ j => red3 X c p _ _)) $$ [Ho Hr]
  · isplitl [Ho]; · iexact Ho
    iexact Hr
  iintro ⟨Ho, Hr⟩
  iapply Hk
  isplitl [HO]; · iexact HO
  isplitl [Ho]; · iexact Ho
  isplitl [Hs]; · iexact Hs
  isplitl [Hup]; · iexact Hup
  isplitl [Hrs]; · iexact Hrs
  isplitl [HT3]; · iexact HT3
  isplitl [HT]; · iexact HT
  isplitr [HR]
  · isplitl [HD]; · iexact HD
    isplitl [Hr]; · iapply own_any; iexact Hr
    iexact Hz
  iexact HR

/-- Copying rows onto themselves. -/
theorem wp_copySelf {H a n : Nat} (M : Memref sig .tc .vmem (RS H) .f32)
    (ha : a + n ≤ H) (hb : a + n ≤ H) (hn) (hc) (G : Tab (Elt F)) (g : Nat) (Kt : PUnit → sProp 𝕄) :
    own c M fullShare a n G g
      ⊢ iprop((own c M fullShare a n G g -∗ Kt ⟨⟩) -∗ WP c (copyP M a a n ha hb hn hc) Kt) := by
  iintro HM Hk
  unfold copyP
  simp only [Prog.lift, Prog.bind_op, Prog.bind_ret]
  iapply (wp_load_own c M ha) $$ HM; iintro HM
  iapply (wp_load_own c M ha) $$ HM; iintro HM
  iapply (wp_store_own c M hb _ _ G g _ (by rw [shapeCast_self])) $$ [HM]
  · iapply own_any; iexact HM
  iexact Hk

/-- The finished eighth copied to its rows of the result, if it is not there already. -/
theorem wp_place (Kt : PUnit → sProp 𝕄) {k g : Nat} (hk : k + q8 p ≤ 8192) (hg : g + q8 p ≤ 8192) (hn) (hc)
    (ek : k = w2k p c) (eg : g = go p c) (G : Tab (Elt F)) :
    iprop(own c oM fullShare (w2k p c) (q8 p) G (go p c) ∗ Up2 c p)
      ⊢ iprop(((own c oM fullShare (go p c) (q8 p) G (go p c)
          ∗ (bif lo p c then ownAny c oM (base p + 4 * q8 p) (4 * q8 p) else ownAny c oM (w2k p c) (q8 p))) -∗ Kt ⟨⟩)
        -∗ WP c (copyP oM k g (q8 p) hk hg hn hc) Kt) := by
  unfold Up2
  cases h : lo p c
  · subst ek eg
    dsimp only [cond]
    iintro ⟨Ho, Hu⟩ Hk
    iapply (wp_copyP c oM _ _ _ _ G (go p c)) $$ [Ho Hu]
    · isplitl [Ho]; · iexact Ho
      iexact Hu
    iintro ⟨Ho, Hu⟩
    iapply Hk
    isplitl [Hu]; · iexact Hu
    iapply own_any; iexact Ho
  · dsimp only [cond]
    rw [lo_w2k c p h] at ek
    obtain rfl : k = g := ek.trans eg.symm
    subst eg
    rw [lo_w2k c p h]
    iintro ⟨Ho, Hu⟩ Hk
    iapply (wp_copySelf c oM _ _ _ _ G (go p c)) $$ Ho
    iintro Ho
    iapply Hk
    isplitl [Ho]; · iexact Ho
    iexact Hu

theorem place_spec (Kt : PUnit → sProp 𝕄) {s k g : Nat} {hs : s + q8 p ≤ 8192} {hk : k + q8 p ≤ 8192} {hg : g + q8 p ≤ 8192}
    (ek : k = w2k p c) (eg : g = go p c) :
    iprop(Env X K ∗ Oo c (owesL c l) ∗ St7 X c p)
      ⊢ iprop(((Oo c (owesL c l) ∗ Oth c p ∗ St8 X c p) -∗ Kt ⟨⟩) -∗ WP c (placeP p s k g hs hk hg) Kt) := by
  unfold St7 St8 D8 Oth Rs1 placeP
  simp only [wp_bind]
  iintro ⟨#He, HO, Ho, Hs, Hup, Hrs, HT3, HT4, HD, HR⟩ Hk
  iapply (wp_waitS X K c p 2 _ _ _ _ (cr_o1 p _ _)) $$ [HO Hs]
  · isplitr; · iexact He
    isplitl [Hs]; · iexact Hs
    iexact HO
  iintro ⟨HO, Hz, Hrs2⟩
  ihave Hrs2 := (show (sndPay X c p 2 : sProp 𝕄) ⊢ (bif lo p c then iprop(emp) else ownAny c oM (w2s p c) (q8 p)) from .rfl) $$ Hrs2
  iapply (wp_place c p _ hk hg _ _ ek eg (red X p 3 c)) $$ [Ho Hup]
  · isplitl [Ho]; · iexact Ho
    iexact Hup
  iintro ⟨Ho, Hu⟩
  iapply Hk
  isplitl [HO]; · iexact HO
  isplitl [Hrs Hrs2 Hu]
  · iapply (oth_join c p)
    isplitl [Hrs]; · iexact Hrs
    isplitl [Hrs2]; · iexact Hrs2
    iexact Hu
  isplitl [Ho]
  · iapply (own_congr (c : Thread nD τ) oM (fun i hi j => (OUT_eq X p c (go p c + i) j (Nat.le_add_right _ _) (Nat.add_lt_add_left hi _)).symm))
    iexact Ho
  isplitl [HT3]; · iexact HT3
  isplitl [HT4]; · iexact HT4
  isplitr [HR]
  · isplitl [HD]; · iexact HD
    iexact Hz
  iexact HR

/-- The finished rows, own and received, are the next larger piece: the quarter from its eighths, -/
theorem gather_q : iprop(own c oM fullShare (go p c) (q8 p) (OUT X) (go p c)
      ∗ own c oM fullShare (go p (peer c p 3)) (q8 p) (OUT X) (go p (peer c p 3)))
    ⊢ (own c oM fullShare (gq p c) (2 * q8 p) (OUT X) (gq p c) : sProp 𝕄) :=
  (own_two c (OUT X) oM (two_q (q8 p)) (by
    rcases eighths p c with ⟨-, -, h1, h2⟩ | ⟨-, -, h1, h2⟩
    exacts [.inl ⟨h1, h2, h1, h2⟩, .inr ⟨h1, h2, h1, h2⟩])).2

/-- the half from its quarters. -/
theorem gather_h : iprop(own c oM fullShare (gq p c) (2 * q8 p) (OUT X) (gq p c)
      ∗ own c oM fullShare (gq p (peer c p 4)) (2 * q8 p) (OUT X) (gq p (peer c p 4)))
    ⊢ (own c oM fullShare (gw p c) (4 * q8 p) (OUT X) (gw p c) : sProp 𝕄) :=
  (own_two c (OUT X) oM (four_q (q8 p)) (by
    rcases quarters p c with ⟨-, -, h1, h2⟩ | ⟨-, -, h1, h2⟩
    exacts [.inl ⟨h1, h2, h1, h2⟩, .inr ⟨h1, h2, h1, h2⟩])).2

theorem oth_peer : (Oth c (p + 2) : sProp 𝕄) = ownAny c oM (gw (p + 2) (peer c p 3)) (4 * q8 (p + 2)) := rfl

theorem t5_peer : (ownAny (peer c p 3) oM (gw (p + 2) c) (4 * q8 (p + 2)) : sProp 𝕄) = T5 c (p + 2) := by
  unfold T5; rw [peer5]; rfl

theorem out3_spec (Kt : PUnit → sProp 𝕄) {a : Nat} {ha : a + q8 p ≤ 8192} {d : Dev nD} (ea : a = go p c) (hd : d = peer c p 3) :
    iprop(Env X K ∗ Oo c (owesL c ((p, 3) :: l)) ∗ Oth c (p + 2) ∗ St8 X c p)
      ⊢ iprop(((Oo c (owesL c l) ∗ St9 X c p) -∗ Kt ⟨⟩) -∗ WP c (outP p 3 a (q8 p) ha d) Kt) := by
  subst ea
  rw [oth_peer]
  unfold St8 St9 R3 T3 outP
  iintro ⟨#He, HO, Hoth, Ho, HT, HT4, HD, Htr, HR⟩ Hk
  iapply (wp_tr X K c p 3 false oM oM _ _ _ _ _ hd (OUT X) (go p c) (ownAny c oM (gw (p + 2) (peer c p 3)) (4 * q8 (p + 2))) _ l (cr_o1 p _ _) .rfl .rfl)
    $$ [HO Ho HT Hoth Htr]
  · isplitr; · iexact He
    isplitl [HO]; · iexact HO
    isplitl [Ho]; · iexact Ho
    isplitl [HT]; · iexact HT
    isplitl [Hoth]; · iexact Hoth
    iexact Htr
  iintro ⟨HO, HFl⟩
  iapply Hk
  isplitl [HO]; · iexact HO
  isplitl [HFl]; · iexact HFl
  isplitl [HT4]; · iexact HT4
  isplitl [HD]; · iexact HD
  iexact HR

theorem rcv3_spec (Kt : PUnit → sProp 𝕄) {a : Nat} {ha : a + q8 p ≤ 8192} (hl : ∀ pt ∈ l, lvT 3 < lvT pt.2) :
    iprop(Env X K ∗ Oo c (owesL c l) ∗ St9 X c p)
      ⊢ iprop(((Oo c (owesL c l) ∗ T5 c (p + 2) ∗ St10 X c p) -∗ Kt ⟨⟩) -∗ WP c (outW (rc p 3) a (q8 p) ha) Kt) := by
  unfold St9 St10 Fl D10 outW
  iintro ⟨#He, HO, ⟨Hs, Hw⟩, HT4, HD, HR⟩ Hk
  iapply (wp_waitR X K c p 3 _ _ l _ (cr_o1 p _ _) hl) $$ [HO Hw]
  · isplitr; · iexact He
    isplitl [Hw]; · iexact Hw
    iexact HO
  iintro ⟨HO, Hz, Hr⟩
  ihave ⟨Hr, HT⟩ := (show (rcvPay X c p 3 : sProp 𝕄) ⊢ iprop(own c oM fullShare (go p (peer c p 3)) (q8 p) (OUT X) (go p (peer c p 3))
    ∗ ownAny (peer c p 3) oM (gw (p + 2) c) (4 * q8 (p + 2))) from .rfl) $$ Hr
  ihave HT := (Entails.of_eq (t5_peer c p)) $$ HT
  iapply Hk
  isplitl [HO]; · iexact HO
  isplitl [HT]; · iexact HT
  isplitl [Hr]; · iexact Hr
  isplitl [Hs]; · iexact Hs
  isplitl [HT4]; · iexact HT4
  isplitr [HR]
  · isplitl [HD]; · iexact HD
    iexact Hz
  iexact HR

theorem snd3_spec (Kt : PUnit → sProp 𝕄) {a : Nat} {ha : a + q8 p ≤ 8192} :
    iprop(Env X K ∗ Oo c (owesL c l) ∗ St10 X c p)
      ⊢ iprop(((Oo c (owesL c l) ∗ own c oM fullShare (gq p c) (2 * q8 p) (OUT X) (gq p c) ∗ T4 c p ∗ D11 X c p ∗ Tr c p 4 ∗ Tr c p 5) -∗ Kt ⟨⟩)
        -∗ WP c (outW (sn p 3) a (q8 p) ha) Kt) := by
  unfold St10 D11 outW
  iintro ⟨#He, HO, Hr, Hs, HT4, HD, HR⟩ Hk
  iapply (wp_waitS X K c p 3 _ _ _ _ (cr_o1 p _ _)) $$ [HO Hs]
  · isplitr; · iexact He
    isplitl [Hs]; · iexact Hs
    iexact HO
  iintro ⟨HO, Hz, Ho⟩
  ihave Ho := (show (sndPay X c p 3 : sProp 𝕄) ⊢ own c oM fullShare (go p c) (q8 p) (OUT X) (go p c) from .rfl) $$ Ho
  iapply Hk
  isplitl [HO]; · iexact HO
  isplitl [Ho Hr]
  · iapply (gather_q X c p)
    isplitl [Ho]; · iexact Ho
    iexact Hr
  isplitl [HT4]; · iexact HT4
  isplitr [HR]
  · isplitl [HD]; · iexact HD
    iexact Hz
  iexact HR

theorem out4_spec (Kt : PUnit → sProp 𝕄) {a : Nat} {ha : a + 2 * q8 p ≤ 8192} {d : Dev nD} (ea : a = gq p c) (hd : d = peer c p 4) :
    iprop(Env X K ∗ Oo c (owesL c ((p, 4) :: l)) ∗ own c oM fullShare (gq p c) (2 * q8 p) (OUT X) (gq p c) ∗ T4 c p ∗ D11 X c p ∗ Tr c p 4 ∗ Tr c p 5)
      ⊢ iprop(((Oo c (owesL c l) ∗ St11 X c p) -∗ Kt ⟨⟩) -∗ WP c (outP p 4 a (2 * q8 p) ha d) Kt) := by
  subst ea
  unfold St11 T4 outP
  iintro ⟨#He, HO, Ho, HT, HD, Htr, HR⟩ Hk
  iapply (wp_tr X K c p 4 false oM oM _ _ _ _ _ hd (OUT X) (gq p c) iprop(emp) _ l (cr_o2 p _ _) .rfl Laws.sep_emp.1)
    $$ [HO Ho HT Htr]
  · isplitr; · iexact He
    isplitl [HO]; · iexact HO
    isplitl [Ho]; · iexact Ho
    isplitl [HT]; · iexact HT
    isplitr; · iempintro
    iexact Htr
  iintro ⟨HO, HFl⟩
  iapply Hk
  isplitl [HO]; · iexact HO
  isplitl [HFl]; · iexact HFl
  isplitl [HD]; · iexact HD
  iexact HR

theorem rcv4_spec (Kt : PUnit → sProp 𝕄) {a : Nat} {ha : a + 2 * q8 p ≤ 8192} (hl : ∀ pt ∈ l, lvT 4 < lvT pt.2) :
    iprop(Env X K ∗ Oo c (owesL c l) ∗ St11 X c p)
      ⊢ iprop(((Oo c (owesL c l) ∗ St12 X c p) -∗ Kt ⟨⟩) -∗ WP c (outW (rc p 4) a (2 * q8 p) ha) Kt) := by
  unfold St11 St12 Fl D12 outW
  iintro ⟨#He, HO, ⟨Hs, Hw⟩, HD, HR⟩ Hk
  iapply (wp_waitR X K c p 4 _ _ l _ (cr_o2 p _ _) hl) $$ [HO Hw]
  · isplitr; · iexact He
    isplitl [Hw]; · iexact Hw
    iexact HO
  iintro ⟨HO, Hz, Hr⟩
  ihave Hr := (show (rcvPay X c p 4 : sProp 𝕄) ⊢ own c oM fullShare (gq p (peer c p 4)) (2 * q8 p) (OUT X) (gq p (peer c p 4)) from .rfl) $$ Hr
  iapply Hk
  isplitl [HO]; · iexact HO
  isplitl [Hr]; · iexact Hr
  isplitl [Hs]; · iexact Hs
  isplitr [HR]
  · isplitl [HD]; · iexact HD
    iexact Hz
  iexact HR

theorem snd4_spec (Kt : PUnit → sProp 𝕄) {a : Nat} {ha : a + 2 * q8 p ≤ 8192} :
    iprop(Env X K ∗ Oo c (owesL c l) ∗ St12 X c p)
      ⊢ iprop(((Oo c (owesL c l) ∗ own c oM fullShare (gw p c) (4 * q8 p) (OUT X) (gw p c) ∗ D13 X c p ∗ Tr c p 5) -∗ Kt ⟨⟩)
        -∗ WP c (outW (sn p 4) a (2 * q8 p) ha) Kt) := by
  unfold St12 D13 outW
  iintro ⟨#He, HO, Hr, Hs, HD, HR⟩ Hk
  iapply (wp_waitS X K c p 4 _ _ _ _ (cr_o2 p _ _)) $$ [HO Hs]
  · isplitr; · iexact He
    isplitl [Hs]; · iexact Hs
    iexact HO
  iintro ⟨HO, Hz, Ho⟩
  ihave Ho := (show (sndPay X c p 4 : sProp 𝕄) ⊢ own c oM fullShare (gq p c) (2 * q8 p) (OUT X) (gq p c) from .rfl) $$ Ho
  iapply Hk
  isplitl [HO]; · iexact HO
  isplitl [Ho Hr]
  · iapply (gather_h X c p)
    isplitl [Ho]; · iexact Ho
    iexact Hr
  isplitr [HR]
  · isplitl [HD]; · iexact HD
    iexact Hz
  iexact HR

theorem out5_spec (Kt : PUnit → sProp 𝕄) {a : Nat} {ha : a + 4 * q8 p ≤ 8192} {d : Dev nD} (ea : a = gw p c) (hd : d = peer c p 5) :
    iprop(Env X K ∗ Oo c (owesL c ((p, 5) :: l)) ∗ T5 c p ∗ own c oM fullShare (gw p c) (4 * q8 p) (OUT X) (gw p c) ∗ D13 X c p ∗ Tr c p 5)
      ⊢ iprop(((Oo c (owesL c l) ∗ St13 X c p) -∗ Kt ⟨⟩) -∗ WP c (outP p 5 a (4 * q8 p) ha d) Kt) := by
  subst ea
  unfold St13 T5 outP
  iintro ⟨#He, HO, HT, Ho, HD, Htr⟩ Hk
  iapply (wp_tr X K c p 5 false oM oM _ _ _ _ _ hd (OUT X) (gw p c) iprop(emp) _ l (cr_o4 p _ _) .rfl Laws.sep_emp.1)
    $$ [HO Ho HT Htr]
  · isplitr; · iexact He
    isplitl [HO]; · iexact HO
    isplitl [Ho]; · iexact Ho
    isplitl [HT]; · iexact HT
    isplitr; · iempintro
    iexact Htr
  iintro ⟨HO, HFl⟩
  iapply Hk
  isplitl [HO]; · iexact HO
  isplitl [HFl]; · iexact HFl
  iexact HD

theorem rcv5_spec (Kt : PUnit → sProp 𝕄) {a : Nat} {ha : a + 4 * q8 p ≤ 8192} (hl : ∀ pt ∈ l, lvT 5 < lvT pt.2) :
    iprop(Env X K ∗ Oo c (owesL c l) ∗ St13 X c p)
      ⊢ iprop(((Oo c (owesL c l) ∗ St14 X c p) -∗ Kt ⟨⟩) -∗ WP c (outW (rc p 5) a (4 * q8 p) ha) Kt) := by
  unfold St13 St14 Fl D14 outW
  iintro ⟨#He, HO, ⟨Hs, Hw⟩, HD⟩ Hk
  iapply (wp_waitR X K c p 5 _ _ l _ (cr_o4 p _ _) hl) $$ [HO Hw]
  · isplitr; · iexact He
    isplitl [Hw]; · iexact Hw
    iexact HO
  iintro ⟨HO, Hz, Hr⟩
  ihave Hr := (show (rcvPay X c p 5 : sProp 𝕄) ⊢ own c oM fullShare (gw p (peer c p 5)) (4 * q8 p) (OUT X) (gw p (peer c p 5)) from .rfl) $$ Hr
  iapply Hk
  isplitl [HO]; · iexact HO
  isplitl [Hr]; · iexact Hr
  isplitl [Hs]; · iexact Hs
  isplitl [HD]; · iexact HD
  iexact Hz

theorem snd5_spec (Kt : PUnit → sProp 𝕄) {a : Nat} {ha : a + 4 * q8 p ≤ 8192} :
    iprop(Env X K ∗ Oo c (owesL c l) ∗ St14 X c p)
      ⊢ iprop(((Oo c (owesL c l) ∗ St15 X c p) -∗ Kt ⟨⟩) -∗ WP c (outW (sn p 5) a (4 * q8 p) ha) Kt) := by
  unfold St14 St15 D15 outW
  iintro ⟨#He, HO, Hr, Hs, HD⟩ Hk
  iapply (wp_waitS X K c p 5 _ _ _ _ (cr_o4 p _ _)) $$ [HO Hs]
  · isplitr; · iexact He
    isplitl [Hs]; · iexact Hs
    iexact HO
  iintro ⟨HO, Hz, Ho⟩
  ihave Ho := (show (sndPay X c p 5 : sProp 𝕄) ⊢ own c oM fullShare (gw p c) (4 * q8 p) (OUT X) (gw p c) from .rfl) $$ Ho
  iapply Hk
  isplitl [HO]; · iexact HO
  isplitl [Hr]; · iexact Hr
  isplitl [Ho]; · iexact Ho
  isplitl [HD]; · iexact HD
  iexact Hz

end Spec

end Cert.AllReduce
-- ==== Proof.Body.lean ====
/-
# Body: the whole kernel on one device

The phases' rules in program order. The three bands' states go round: a phase takes the first to its next state and puts it last.
-/
module

public import proofs.«01_k».proof.Proof.Phases

@[expose] public section

noncomputable section

namespace Cert.AllReduce

open Cert.KernelIdeal Cert.KernelIdeal.Gen Cert.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Tab (Elt F)) (K : Dev nD × Fin 52 → ℕ) (c : Dev nD)

/-! ## The barrier -/

/-- A signal to the partner on axis `e` hands it this device's receive rows it will fill. -/
theorem sig_spec (Kt : PUnit → sProp 𝕄) (e : Fin 3) (d : Dev nD) (hd : d = prt e c) (O : CellTallies nD τ sig Unit) :
    iprop(Env X K ∗ Oo c (O + tallyAt (barC (prt e c)) () 1) ∗ dutyTok ER (barC (prt e c)) 0 e ∗ barPay (prt e c) e)
      ⊢ iprop((Oo c O -∗ Kt ⟨⟩) -∗ WP c (semSignalWord d barS 1#32) Kt) := by
  subst hd
  iintro ⟨#He, HO, Ht, Hp⟩ Hk
  unfold Oo
  icases HO with ⟨%W, HO⟩
  ihave ⟨#Hi, #Hr⟩ := (env_bar X K (prt e c)) $$ He
  ihave Hp := (show (barPay (prt e c) e : sProp 𝕄) ⊢ (Rd X).payload (barC (prt e c)) 0 e from .rfl) $$ Hp
  simp only [semSignalWord]
  iapply (Rounds.wp_signal 𝒱₀ ER (Rd X) (c : Thread nD τ) none (dst := (prt e c : Thread nD τ)) (κ := K (prt e c, 0))
      (d := e) (by rw [duties_at]; exact Finset.mem_univ _) ((amount_at X (barC (prt e c)) e).trans rfl) () O rfl) $$ [HO Ht Hp]
  · isplitr; · iexact Hi
    isplitl [HO]; · iexact HO
    isplitl [Ht]; · iexact Ht
    isplitl [Hp]; · iexact Hp
    iexact Hr
  iintro HO
  rw [wp_ret]; imodintro
  iapply Hk
  iexists W; iexact HO

/-- The wait for the three partners' signals: their receive rows, and the barrier's cell closed. -/
theorem bar_spec (Kt : PUnit → sProp 𝕄) (l : List (Fin 3 × Fin 7)) (hl : ∀ pt ∈ l, 1 < lvT pt.2) :
    iprop(Env X K ∗ Oo c (owesL c l) ∗ atPos ER (barC c) 0 ∅ 0 ∗ cred (tallyAt (barC c) () 3))
      ⊢ iprop(((Oo c (owesL c l) ∗ semVal (barC c) 0 ∗ barPay c 0 ∗ barPay c 1 ∗ barPay c 2) -∗ Kt ⟨⟩) -∗ WP c (semWaitWord barS 3#32) Kt) := by
  iintro ⟨#He, HO, Hat, Hcr⟩ Hk
  unfold Oo
  icases HO with ⟨%W, HO⟩
  ihave ⟨#Hi, -⟩ := (env_bar X K c) $$ He
  ihave #Hl := (env_lev X K) $$ He
  simp only [semWaitWord]
  iapply (Rounds.wp_wait_rest_token 𝒱₀ ER (Rd X) (c : Thread nD τ) none (κ := K (c, 0))
      (wpE_semWait_eq 𝒱₀ (c : Thread nD τ) none Set.univ) (Set.mem_univ _) () (O := owesL c l) (W := W) (R := 0) (m := 0) (T := ∅)
      (by rw [expect_bar]; decide)) $$ [Hcr HO Hat]
  · isplitr; · iexact Hi
    isplitl [Hcr]; · iexact Hcr
    isplitl [HO]; · iexact HO
    isplitr; · iapply (mayWait c (.reg barS) 1 le_rfl l hl); iexact Hl
    iexact Hat
  iintro ⟨HO, Hat, -, Hpay⟩
  ihave Hp := (Entails.of_eq (rest_bar X c)) $$ Hpay
  imod (Rounds.cell_close ER (Rd X) (Set.mem_univ (K (c, 0))) (fun h => h) (R := 0 + 1) (duties_later X _)) $$ [Hat] with Hz
  · isplitr; · iexact Hi
    iexact Hat
  rw [wp_ret]; imodintro
  iapply Hk
  isplitl [HO]; · iexists _; iexact HO
  isplitl [Hz]; · iexact Hz
  iexact Hp

/-! ## The receive rows handed round -/

/-- Device `c'`'s rows of band `p`'s receive buffer, in their four pieces. -/
def Rcv (c' : Dev nD) (p : Fin 3) : sProp 𝕄 :=
  iprop(ownAny c' (rM p) 0 (2 * q8 p) ∗ ownAny c' (rM p) (2 * q8 p) (2 * q8 p)
    ∗ ownAny c' (rM p) (4 * q8 p) (2 * q8 p) ∗ ownAny c' (rM p) (6 * q8 p) (q8 p))

/-- The partners' receive rows band `p`'s sends fill. -/
def TG (p : Fin 3) : sProp 𝕄 :=
  iprop(ownAny (peer c p 0) (rM p) 0 (2 * q8 p) ∗ ownAny (peer c p 6) (rM p) (2 * q8 p) (2 * q8 p)
    ∗ ownAny (peer c p 1) (rM p) (4 * q8 p) (2 * q8 p) ∗ ownAny (peer c p 2) (rM p) (6 * q8 p) (q8 p))

theorem barPay_prt (e : Fin 3) : (barPay (prt e c) e : sProp 𝕄) = iprop(ownAny c (rM e) 0 (2 * q8 e) ∗ ownAny c (rM e) (2 * q8 e) (2 * q8 e)
    ∗ ownAny c (rM (e + 2)) (4 * q8 (e + 2)) (2 * q8 (e + 2)) ∗ ownAny c (rM (e + 1)) (6 * q8 (e + 1)) (q8 (e + 1))) := by
  have h := prt_prt e c
  unfold barPay
  generalize prt e (prt e c) = d at h ⊢
  subst h; rfl

theorem bar_give : iprop(Rcv c 0 ∗ Rcv c 1 ∗ Rcv c 2) ⊢ (iprop(barPay (prt 0 c) 0 ∗ barPay (prt 1 c) 1 ∗ barPay (prt 2 c) 2) : sProp 𝕄) := by
  unfold Rcv
  rw [barPay_prt, barPay_prt, barPay_prt]
  iintro ⟨⟨A0, A6, A1, A2⟩, ⟨B0, B6, B1, B2⟩, C0, C6, C1, C2⟩
  isplitl [A0 A6 C1 B2]
  · isplitl [A0]; · iexact A0
    isplitl [A6]; · iexact A6
    isplitl [C1]; · iexact C1
    iexact B2
  isplitl [B0 B6 A1 C2]
  · isplitl [B0]; · iexact B0
    isplitl [B6]; · iexact B6
    isplitl [A1]; · iexact A1
    iexact C2
  isplitl [C0]; · iexact C0
  isplitl [C6]; · iexact C6
  isplitl [B1]; · iexact B1
  iexact A2

theorem bar_take : iprop(barPay c 0 ∗ barPay c 1 ∗ barPay c 2) ⊢ (iprop(TG c 0 ∗ TG c 1 ∗ TG c 2) : sProp 𝕄) := by
  unfold TG barPay
  iintro ⟨⟨A0, A6, C1, B2⟩, ⟨B0, B6, A1, C2⟩, C0, C6, B1, A2⟩
  isplitl [A0 A6 A1 A2]
  · isplitl [A0]; · iexact A0
    isplitl [A6]; · iexact A6
    isplitl [A1]; · iexact A1
    iexact A2
  isplitl [B0 B6 B1 B2]
  · isplitl [B0]; · iexact B0
    isplitl [B6]; · iexact B6
    isplitl [B1]; · iexact B1
    iexact B2
  isplitl [C0]; · iexact C0
  isplitl [C6]; · iexact C6
  isplitl [C1]; · iexact C1
  iexact C2

/-! ## The phases in order -/

section Chain
variable {O O' : CellTallies nD τ sig Unit}

/-- A phase of the first band, which then goes last; -/
theorem rot {S S' A B : sProp 𝕄} {m : P₀ F PUnit} {k : PUnit → P₀ F PUnit} {Kt : PUnit → sProp 𝕄} (h : ∀ Kt : PUnit → sProp 𝕄, iprop(Env X K ∗ Oo c O ∗ S) ⊢ iprop(((Oo c O' ∗ S') -∗ Kt ⟨⟩) -∗ WP c m Kt))
    (hk : iprop(Env X K ∗ Oo c O' ∗ A ∗ B ∗ S') ⊢ WP c (k ⟨⟩) Kt) :
    iprop(Env X K ∗ Oo c O ∗ S ∗ A ∗ B) ⊢ WP c (m >>= k) Kt := by
  simp only [wp_bind]
  iintro ⟨#He, HO, HS, HA, HB⟩
  iapply (h _) $$ [HO HS]
  · isplitr; · iexact He
    isplitl [HO]; · iexact HO
    iexact HS
  iintro ⟨HO, HS⟩
  iapply hk
  isplitr; · iexact He
  isplitl [HO]; · iexact HO
  isplitl [HA]; · iexact HA
  isplitl [HB]; · iexact HB
  iexact HS

/-- or which stays first. -/
theorem stay {S S' A B : sProp 𝕄} {m : P₀ F PUnit} {k : PUnit → P₀ F PUnit} {Kt : PUnit → sProp 𝕄} (h : ∀ Kt : PUnit → sProp 𝕄, iprop(Env X K ∗ Oo c O ∗ S) ⊢ iprop(((Oo c O' ∗ S') -∗ Kt ⟨⟩) -∗ WP c m Kt))
    (hk : iprop(Env X K ∗ Oo c O' ∗ S' ∗ A ∗ B) ⊢ WP c (k ⟨⟩) Kt) :
    iprop(Env X K ∗ Oo c O ∗ S ∗ A ∗ B) ⊢ WP c (m >>= k) Kt := by
  refine rot X K c h (BIBase.Entails.trans ?_ hk)
  iintro ⟨#He, HO, HA, HB, HS⟩
  isplitr; · iexact He
  isplitl [HO]; · iexact HO
  isplitl [HS]; · iexact HS
  isplitl [HA]; · iexact HA
  iexact HB

/-- The last phase. -/
theorem last {S S' A B : sProp 𝕄} {m : P₀ F PUnit}
    (h : ∀ Kt : PUnit → sProp 𝕄, iprop(Env X K ∗ Oo c O ∗ S) ⊢ iprop(((Oo c O' ∗ S') -∗ Kt ⟨⟩) -∗ WP c m Kt)) :
    iprop(Env X K ∗ Oo c O ∗ S ∗ A ∗ B) ⊢ WP c m (fun _ => iprop(Oo c O' ∗ A ∗ B ∗ S')) := by
  iintro ⟨#He, HO, HS, HA, HB⟩
  iapply (h _) $$ [HO HS]
  · isplitr; · iexact He
    isplitl [HO]; · iexact HO
    iexact HS
  iintro ⟨HO, HS⟩
  isplitl [HO]; · iexact HO
  isplitl [HA]; · iexact HA
  isplitl [HB]; · iexact HB
  iexact HS

/-- A phase beside something kept. -/
theorem keep {S S' Fm : sProp 𝕄} {m : P₀ F PUnit} (h : ∀ Kt : PUnit → sProp 𝕄, iprop(Env X K ∗ Oo c O ∗ S) ⊢ iprop(((Oo c O' ∗ S') -∗ Kt ⟨⟩) -∗ WP c m Kt)) :
    ∀ Kt : PUnit → sProp 𝕄, iprop(Env X K ∗ Oo c O ∗ Fm ∗ S) ⊢ iprop(((Oo c O' ∗ Fm ∗ S') -∗ Kt ⟨⟩) -∗ WP c m Kt) := by
  intro Kt
  iintro ⟨#He, HO, HF, HS⟩ Hk
  iapply (h _) $$ [HO HS]
  · isplitr; · iexact He
    isplitl [HO]; · iexact HO
    iexact HS
  iintro ⟨HO, HS⟩
  iapply Hk
  isplitl [HO]; · iexact HO
  isplitl [HF]; · iexact HF
  iexact HS

/-- What comes beside each band's state changes bands. -/
theorem swap₁ {P₀ P₁ P₂ S₀ S₁ S₂ W : sProp 𝕄} (hk : iprop(Env X K ∗ Oo c O ∗ (P₂ ∗ S₀) ∗ (P₀ ∗ S₁) ∗ (P₁ ∗ S₂)) ⊢ W) :
    iprop(Env X K ∗ Oo c O ∗ (P₀ ∗ S₀) ∗ (P₁ ∗ S₁) ∗ (P₂ ∗ S₂)) ⊢ W := by
  refine BIBase.Entails.trans ?_ hk
  iintro ⟨#He, HO, ⟨P0, S0⟩, ⟨P1, S1⟩, P2, S2⟩
  isplitr; · iexact He
  isplitl [HO]; · iexact HO
  isplitl [P2 S0]
  · isplitl [P2]; · iexact P2
    iexact S0
  isplitl [P0 S1]
  · isplitl [P0]; · iexact P0
    iexact S1
  isplitl [P1]; · iexact P1
  iexact S2

theorem swap₂ {P₀ P₁ P₂ S₀ S₁ S₂ W : sProp 𝕄} (hk : iprop(Env X K ∗ Oo c O ∗ (P₁ ∗ S₀) ∗ (P₂ ∗ S₁) ∗ (P₀ ∗ S₂)) ⊢ W) :
    iprop(Env X K ∗ Oo c O ∗ (P₀ ∗ S₀) ∗ (P₁ ∗ S₁) ∗ (P₂ ∗ S₂)) ⊢ W :=
  swap₁ X K c (swap₁ X K c hk)

end Chain

/-! ## The start and the end -/

/-- What a device holds of band `p` at the start, besides the partners' rows; -/
def Bd (p : Fin 3) : sProp 𝕄 :=
  iprop((dutyTok ER (inC c p) 0 0 ∗ At c (inn p)) ∗ own c xM fullShare (gw p c) (4 * q8 p) (X c) (gw p c)
    ∗ own c xM fullShare (xo p c) (2 * q8 p) (X c) (xo p c)
    ∗ own c xM fullShare (xo p c + 2 * q8 p) (2 * q8 p) (X c) (xo p c + 2 * q8 p)
    ∗ ownAny c oM (base p) (4 * q8 p) ∗ ownAny c oM (base p + 4 * q8 p) (4 * q8 p)
    ∗ (Tr c p 0 ∗ Tr c p 6 ∗ Tr c p 1 ∗ Tr c p 2 ∗ R3 c p))

theorem st0_intro (p : Fin 3) : iprop(Bd X c p ∗ TG c p) ⊢ St0 X c p := by
  unfold Bd TG St0 R1 R2
  iintro ⟨⟨Hi, Hx, Hx0, Hx6, Ho, Hu, T0, T6, T1, T2, HR⟩, G0, G6, G1, G2⟩
  isplitl [Hi]; · iexact Hi
  isplitl [Hx]; · iexact Hx
  isplitl [Hx0]; · iexact Hx0
  isplitl [Hx6]; · iexact Hx6
  isplitl [Ho]; · iexact Ho
  isplitl [T0 G0]
  · isplitl [G0]; · iexact G0
    iexact T0
  isplitl [T6 G6]
  · isplitl [G6]; · iexact G6
    iexact T6
  isplitl [Hu]; · iexact Hu
  isplitl [T1 G1]
  · isplitl [G1]; · iexact G1
    iexact T1
  isplitr [HR]
  · isplitl [G2]; · iexact G2
    iexact T2
  iexact HR

/-- the barrier's rights; -/
def BarR : sProp 𝕄 :=
  iprop((dutyTok ER (barC (prt 0 c)) 0 0 ∗ dutyTok ER (barC (prt 1 c)) 0 1 ∗ dutyTok ER (barC (prt 2 c)) 0 2)
    ∗ atPos ER (barC c) 0 ∅ 0 ∗ cred (tallyAt (barC c) () 3))

/-- all a device starts with, -/
def Pre : sProp 𝕄 := iprop(BarR c ∗ (Rcv c 0 ∗ Rcv c 1 ∗ Rcv c 2) ∗ Bd X c 0 ∗ Bd X c 1 ∗ Bd X c 2)
/-- and ends with. -/
def Post : sProp 𝕄 := iprop(semVal (barC c) 0 ∗ St15 X c 0 ∗ St15 X c 1 ∗ St15 X c 2)

/-- The phases after the barrier, in program order. -/
theorem rest_spec :
    iprop(Env X K ∗ Oo c (owesL c sends) ∗ St0 X c 0 ∗ St0 X c 1 ∗ St0 X c 2)
      ⊢ WP c (restP c) (fun _ => iprop(Oo c 0 ∗ St15 X c 0 ∗ St15 X c 1 ∗ St15 X c 2)) := by
  obtain ⟨⟨o1, o4, o7⟩, ⟨o2, o5, o8⟩, o3, o6, o9⟩ := off_start c
  obtain ⟨⟨o10, o11, o12⟩, ⟨o13, o14, o15⟩, ⟨o16, o17, o18⟩, o19, o20, o21⟩ := off_work c
  obtain ⟨⟨o22, o23, o24⟩, ⟨o25, o26, o27⟩, ⟨o28, o29, o30⟩, o31, o32, o33⟩ := off_out c
  obtain ⟨⟨d4, d5⟩, ⟨d6, d7⟩, ⟨d8, d9⟩, ⟨d10, d11, d12⟩, d13, d14, d15⟩ := dev_in c
  obtain ⟨⟨d16, d17, d18⟩, ⟨d19, d20, d21⟩, d22, d23, d24⟩ := dev_out c
  unfold restP sends
  refine rot X K c (fun Kt => start_spec X K c 0 _ Kt o1 o2 o3 d4 d5) ?_
  refine rot X K c (fun Kt => start_spec X K c 1 _ Kt o4 o5 o6 d6 d7) ?_
  refine rot X K c (fun Kt => start_spec X K c 2 _ Kt o7 o8 o9 d8 d9) ?_
  refine rot X K c (fun Kt => acc0_spec X K c 0 _ Kt (by decide)) ?_
  refine rot X K c (fun Kt => acc0_spec X K c 1 _ Kt (by decide)) ?_
  refine rot X K c (fun Kt => acc0_spec X K c 2 _ Kt (by decide)) ?_
  refine rot X K c (fun Kt => acc6_spec X K c 0 _ Kt (by decide)) ?_
  refine rot X K c (fun Kt => acc6_spec X K c 1 _ Kt (by decide)) ?_
  refine rot X K c (fun Kt => acc6_spec X K c 2 _ Kt (by decide)) ?_
  refine rot X K c (fun Kt => send1_spec X K c 0 _ Kt o10 d10) ?_
  refine rot X K c (fun Kt => send1_spec X K c 1 _ Kt o11 d11) ?_
  refine rot X K c (fun Kt => send1_spec X K c 2 _ Kt o12 d12) ?_
  refine rot X K c (fun Kt => acc1_spec X K c 0 _ Kt o13 (by decide)) ?_
  refine rot X K c (fun Kt => acc1_spec X K c 1 _ Kt o14 (by decide)) ?_
  refine rot X K c (fun Kt => acc1_spec X K c 2 _ Kt o15 (by decide)) ?_
  refine rot X K c (fun Kt => send2_spec X K c 0 _ Kt o16 d13) ?_
  refine rot X K c (fun Kt => send2_spec X K c 1 _ Kt o17 d14) ?_
  refine rot X K c (fun Kt => send2_spec X K c 2 _ Kt o18 d15) ?_
  refine rot X K c (fun Kt => acc2_spec X K c 0 _ Kt o19 (by decide)) ?_
  refine rot X K c (fun Kt => acc2_spec X K c 1 _ Kt o20 (by decide)) ?_
  refine rot X K c (fun Kt => acc2_spec X K c 2 _ Kt o21 (by decide)) ?_
  refine rot X K c (fun Kt => place_spec X K c 0 _ Kt o19 o22) ?_
  refine rot X K c (fun Kt => place_spec X K c 1 _ Kt o20 o23) ?_
  refine rot X K c (fun Kt => place_spec X K c 2 _ Kt o21 o24) ?_
  refine swap₁ X K c ?_
  refine rot X K c (fun Kt => out3_spec X K c 0 _ Kt o25 d16) ?_
  refine rot X K c (fun Kt => out3_spec X K c 1 _ Kt o26 d17) ?_
  refine rot X K c (fun Kt => out3_spec X K c 2 _ Kt o27 d18) ?_
  refine rot X K c (fun Kt => rcv3_spec X K c 0 _ Kt (by decide)) ?_
  refine rot X K c (fun Kt => rcv3_spec X K c 1 _ Kt (by decide)) ?_
  refine rot X K c (fun Kt => rcv3_spec X K c 2 _ Kt (by decide)) ?_
  refine swap₂ X K c ?_
  refine stay X K c (keep X K c fun Kt => snd3_spec X K c 0 _ Kt) ?_
  refine rot X K c (keep X K c fun Kt => out4_spec X K c 0 _ Kt o28 d19) ?_
  refine stay X K c (keep X K c fun Kt => snd3_spec X K c 1 _ Kt) ?_
  refine rot X K c (keep X K c fun Kt => out4_spec X K c 1 _ Kt o29 d20) ?_
  refine stay X K c (keep X K c fun Kt => snd3_spec X K c 2 _ Kt) ?_
  refine rot X K c (keep X K c fun Kt => out4_spec X K c 2 _ Kt o30 d21) ?_
  refine rot X K c (keep X K c fun Kt => rcv4_spec X K c 0 _ Kt (by decide)) ?_
  refine rot X K c (keep X K c fun Kt => rcv4_spec X K c 1 _ Kt (by decide)) ?_
  refine rot X K c (keep X K c fun Kt => rcv4_spec X K c 2 _ Kt (by decide)) ?_
  refine stay X K c (keep X K c fun Kt => snd4_spec X K c 0 _ Kt) ?_
  refine rot X K c (fun Kt => out5_spec X K c 0 _ Kt o31 d22) ?_
  refine stay X K c (keep X K c fun Kt => snd4_spec X K c 1 _ Kt) ?_
  refine rot X K c (fun Kt => out5_spec X K c 1 _ Kt o32 d23) ?_
  refine stay X K c (keep X K c fun Kt => snd4_spec X K c 2 _ Kt) ?_
  refine rot X K c (fun Kt => out5_spec X K c 2 _ Kt o33 d24) ?_
  refine rot X K c (fun Kt => rcv5_spec X K c 0 _ Kt (by decide)) ?_
  refine rot X K c (fun Kt => rcv5_spec X K c 1 _ Kt (by decide)) ?_
  refine rot X K c (fun Kt => rcv5_spec X K c 2 _ Kt (by decide)) ?_
  refine rot X K c (fun Kt => snd5_spec X K c 0 [] Kt) ?_
  refine rot X K c (fun Kt => snd5_spec X K c 1 [] Kt) ?_
  exact last X K c (fun Kt => snd5_spec X K c 2 [] Kt)

/-- The kernel on device `c`, from what it holds at the start. -/
theorem kernel_spec (Kt : PUnit → sProp 𝕄) :
    iprop(Env X K ∗ Oo c (O₀ c) ∗ Pre X c) ⊢ iprop(((Oo c 0 ∗ Post X c) -∗ Kt ⟨⟩) -∗ WP c (kernelP c) Kt) := by
  obtain ⟨b1, b2, b3⟩ := dev_bar c
  unfold Pre Post BarR kernelP O₀ O₂ O₁
  simp only [wp_bind]
  iintro ⟨#He, HO, ⟨⟨T0, T1, T2⟩, Hat, Hcr⟩, HR, H0, H1, H2⟩ Hk
  ihave ⟨P0, P1, P2⟩ := (bar_give c) $$ HR
  iapply (sig_spec X K c _ 0 _ b1) $$ [HO T0 P0]
  · isplitr; · iexact He
    isplitl [HO]; · iexact HO
    isplitl [T0]; · iexact T0
    iexact P0
  iintro HO
  iapply (sig_spec X K c _ 1 _ b2) $$ [HO T1 P1]
  · isplitr; · iexact He
    isplitl [HO]; · iexact HO
    isplitl [T1]; · iexact T1
    iexact P1
  iintro HO
  iapply (sig_spec X K c _ 2 _ b3) $$ [HO T2 P2]
  · isplitr; · iexact He
    isplitl [HO]; · iexact HO
    isplitl [T2]; · iexact T2
    iexact P2
  iintro HO
  iapply (bar_spec X K c _ sends (by decide)) $$ [HO Hat Hcr]
  · isplitr; · iexact He
    isplitl [HO]; · iexact HO
    isplitl [Hat]; · iexact Hat
    iexact Hcr
  iintro ⟨HO, Hz, HB⟩
  ihave ⟨G0, G1, G2⟩ := (bar_take c) $$ HB
  iapply (wp_wand_r _ _ _ (Q := fun _ => iprop(Oo c 0 ∗ St15 X c 0 ∗ St15 X c 1 ∗ St15 X c 2)))
  isplitl [HO H0 H1 H2 G0 G1 G2]
  · iapply (rest_spec X K c)
    isplitr; · iexact He
    isplitl [HO]; · iexact HO
    isplitl [H0 G0]
    · iapply (st0_intro X c 0)
      isplitl [H0]; · iexact H0
      iexact G0
    isplitl [H1 G1]
    · iapply (st0_intro X c 1)
      isplitl [H1]; · iexact H1
      iexact G1
    iapply (st0_intro X c 2)
    isplitl [H2]; · iexact H2
    iexact G2
  iintro %a ⟨HO, HS⟩
  iapply Hk
  isplitl [HO]; · iexact HO
  isplitl [Hz]; · iexact Hz
  iexact HS

end Cert.AllReduce
-- ==== Proof.Ghost.lean ====
/-
# Ghost: the rights each device starts with

The launch mints every cell's position and duty tokens on its own device. The tokens of a partner's duties go to the
partner who pays them: each exchange is an involution on the devices, so dealing them is a change of index.
-/
module

public import proofs.«01_k».proof.Proof.Body

@[expose] public section

noncomputable section

namespace Cert.AllReduce

open Cert.KernelIdeal Cert.KernelIdeal.Gen Cert.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells of a device, band by band -/

/-- The two semaphores a band leaves unused. -/
def un (p : Fin 3) : DmaSem sig := ⟨8 + 8 * p.val, by have := p.isLt; show _ < 52; omega⟩
def un' (p : Fin 3) : DmaSem sig := ⟨32 + 8 * p.val, by have := p.isLt; show _ < 52; omega⟩

/-- A band's seventeen semaphores: eight for its sends, eight for its receipts, one for its local copy. -/
def ix (pk : Fin 3 × Fin 17) : Fin 52 :=
  if pk.2.val < 8 then ⟨1 + 8 * pk.1.val + pk.2.val % 8, by have := pk.1.isLt; omega⟩
  else if pk.2.val < 16 then ⟨25 + 8 * pk.1.val + pk.2.val % 8, by have := pk.1.isLt; omega⟩
  else ⟨49 + pk.1.val, by have := pk.1.isLt; omega⟩

theorem ix_inj : Function.Injective ix := by decide
theorem ix_all : (Finset.univ : Finset (Fin 52)).erase 0 = Finset.univ.map ⟨ix, ix_inj⟩ := by decide
theorem ix_sn : ∀ (p : Fin 3) (t : Fin 7), ix (p, ⟨t.val, by omega⟩) = sn p t := by decide
theorem ix_rc : ∀ (p : Fin 3) (t : Fin 7), ix (p, ⟨8 + t.val, by omega⟩) = rc p t := by decide

theorem sep_rot (P Q R : sProp 𝕄) : iprop((P ∗ Q) ∗ R) = iprop(P ∗ Q ∗ R) :=
  Idealize.SL.BI.Entails.antisymm Idealize.SL.BI.sep_assoc Idealize.SL.BI.sep_assoc'

theorem sep7 (f : Fin 7 → sProp 𝕄) : bigSep Finset.univ f = iprop(f 0 ∗ f 1 ∗ f 2 ∗ f 3 ∗ f 4 ∗ f 5 ∗ f 6) :=
  bigSep_univ_eq_bigSepL [0, 1, 2, 3, 4, 5, 6] (by decide) (by decide) f

theorem sep3 (f : Fin 3 → sProp 𝕄) : bigSep Finset.univ f = iprop(f 0 ∗ f 1 ∗ f 2) :=
  bigSep_univ_eq_bigSepL [0, 1, 2] (by decide) (by decide) f

theorem sep17' (f : Fin 17 → sProp 𝕄) : bigSep Finset.univ f
    = iprop(f 16 ∗ f 0 ∗ f 1 ∗ f 2 ∗ f 3 ∗ f 4 ∗ f 5 ∗ f 6 ∗ f 8 ∗ f 9 ∗ f 10 ∗ f 11 ∗ f 12 ∗ f 13 ∗ f 14 ∗ f 7 ∗ f 15) :=
  bigSep_univ_eq_bigSepL [16, 0, 1, 2, 3, 4, 5, 6, 8, 9, 10, 11, 12, 13, 14, 7, 15] (by decide) (by decide) f

theorem sep17 (f : Fin 17 → sProp 𝕄) : bigSep Finset.univ f
    = iprop(f 16 ∗ (bigSep Finset.univ fun t : Fin 7 => f ⟨t.val, by omega⟩) ∗ (bigSep Finset.univ fun t : Fin 7 => f ⟨8 + t.val, by omega⟩) ∗ f 7 ∗ f 15) := by
  rw [sep17', sep7, sep7]
  simp only [sep_rot]
  rfl

theorem sep_dma (Φ : Fin 52 → sProp 𝕄) : (bigSep Finset.univ fun p : Fin 3 => bigSep Finset.univ fun k : Fin 17 => Φ (ix (p, k)))
    = bigSep Finset.univ fun p : Fin 3 => iprop(Φ (inn p) ∗ (bigSep Finset.univ fun t : Fin 7 => Φ (sn p t))
        ∗ (bigSep Finset.univ fun t : Fin 7 => Φ (rc p t)) ∗ Φ (un p) ∗ Φ (un' p)) := by
  refine bigSep_congr fun p _ => ?_
  rw [sep17]
  simp only [ix_sn, ix_rc]
  rw [show ix (p, 16) = inn p from by revert p; decide, show ix (p, 7) = un p from by revert p; decide, show ix (p, 15) = un' p from by revert p; decide]

theorem sep52_ix (Φ : Fin 52 → sProp 𝕄) : bigSep Finset.univ Φ
    = iprop(Φ 0 ∗ bigSep Finset.univ fun p : Fin 3 => bigSep Finset.univ fun k : Fin 17 => Φ (ix (p, k))) := by
  rw [bigSep_univ_at Φ 0, ix_all, bigSep_map, bigSep_univ_prod]
  rfl

/-- Something for each of a device's cells is one for the barrier and, for each band, one for each of its semaphores. -/
theorem sep52 (Φ : Fin 52 → sProp 𝕄) : bigSep Finset.univ Φ
    = iprop(Φ 0 ∗ bigSep Finset.univ fun p : Fin 3 => iprop(Φ (inn p) ∗ (bigSep Finset.univ fun t : Fin 7 => Φ (sn p t))
        ∗ (bigSep Finset.univ fun t : Fin 7 => Φ (rc p t)) ∗ Φ (un p) ∗ Φ (un' p))) := by
  rw [sep52_ix, sep_dma]

theorem kcell_sn (c : Dev nD) (p : Fin 3) (t : Fin 7) : kcell (c, sn p t) = snC c p t := by unfold kcell; rw [csem_sn]
theorem kcell_rc (c : Dev nD) (p : Fin 3) (t : Fin 7) : kcell (c, rc p t) = rcC c p t := by unfold kcell; rw [csem_rc]
theorem kcell_inn (c : Dev nD) (p : Fin 3) : kcell (c, inn p) = inC c p := by unfold kcell; rw [csem_inn]
theorem csem_un : ∀ p, csem (un p) = .dma (un p) := by decide
theorem csem_un' : ∀ p, csem (un' p) = .dma (un' p) := by decide

theorem each {I : Type} {s : Finset I} {Φ Ψ : I → sProp 𝕄} (h : ∀ i ∈ s, Φ i ⊢ Ψ i) : bigSep s Φ ⊢ bigSep s Ψ := bigSep_mono h

/-- What everyone knows may be used for each item. -/
theorem each_with {I : Type} [DecidableEq I] {s : Finset I} {R : sProp 𝕄} [BI.Persistent R] {Φ Ψ : I → sProp 𝕄}
    (h : ∀ i ∈ s, iprop(R ∗ Φ i) ⊢ Ψ i) : iprop(R ∗ bigSep s Φ) ⊢ bigSep s Ψ := by
  refine BIBase.Entails.trans (sep_mono_left (BI.bigSep_of_persistent s R)) ?_
  rw [← bigSep_sep']
  exact bigSep_mono h

/-! ## Dealing what belongs to partners -/

/-- What is there for each device and item may be named by the item's partner instead. -/
theorem deal {I : Type} [Fintype I] [DecidableEq I] (σ : I → Dev nD → Dev nD) (hσ : ∀ i c, σ i (σ i c) = c) (Φ : Dev nD → I → sProp 𝕄) :
    (bigSep Finset.univ fun c : Dev nD => bigSep Finset.univ fun i : I => Φ c i)
      = bigSep Finset.univ fun c : Dev nD => bigSep Finset.univ fun i : I => Φ (σ i c) i := by
  rw [bigSep_univ_comm, bigSep_univ_comm (fun c i => Φ (σ i c) i)]
  exact bigSep_congr fun i _ => bigSep_univ_equiv ⟨σ i, σ i, hσ i, hσ i⟩ (fun c => Φ c i)

theorem deal₂ (σ : Fin 3 → Fin 7 → Dev nD → Dev nD) (hσ : ∀ p t c, σ p t (σ p t c) = c) (Φ : Dev nD → Fin 3 → Fin 7 → sProp 𝕄) :
    (bigSep Finset.univ fun c : Dev nD => bigSep Finset.univ fun p : Fin 3 => bigSep Finset.univ fun t : Fin 7 => Φ c p t)
      = bigSep Finset.univ fun c : Dev nD => bigSep Finset.univ fun p : Fin 3 => bigSep Finset.univ fun t : Fin 7 => Φ (σ p t c) p t := by
  have h (Ψ : Dev nD → Fin 3 → Fin 7 → sProp 𝕄) : (bigSep Finset.univ fun c : Dev nD => bigSep Finset.univ fun p : Fin 3 => bigSep Finset.univ fun t : Fin 7 => Ψ c p t)
      = bigSep Finset.univ fun c : Dev nD => bigSep Finset.univ fun i : Fin 3 × Fin 7 => Ψ c i.1 i.2 :=
    bigSep_congr fun c _ => (bigSep_univ_prod (fun i : Fin 3 × Fin 7 => Ψ c i.1 i.2)).symm
  rw [h, h (fun c p t => Φ (σ p t c) p t)]
  exact deal (fun i : Fin 3 × Fin 7 => σ i.1 i.2) (fun i => hσ i.1 i.2) (fun c i => Φ c i.1 i.2)

/-! ## What the launch mints -/

theorem csem_inj : Function.Injective csem := by
  intro i j h
  unfold csem at h
  split at h <;> split at h
  · next h1 h2 => rw [h1, h2]
  · cases h
  · cases h
  · exact SemLoc.dma.inj h

theorem kcell_inj : Function.Injective (kcell : Dev nD × Fin 52 → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- The kernel's cells, -/
def kCells : Finset (GSem nD τ sig) := Finset.univ.map ⟨kcell, kcell_inj⟩

/-- and a token for each of three duties of each. -/
abbrev tokOf (x : Dev nD × Fin 52 × Fin 3) : GSem nD τ sig × ℕ × Fin 3 := (kcell (x.1, x.2.1), 0, x.2.2)

theorem tokOf_inj : Function.Injective (tokOf : Dev nD × Fin 52 × Fin 3 → GSem nD τ sig × ℕ × Fin 3) := by
  rintro ⟨c, k, d⟩ ⟨c', k', d'⟩ h
  have h1 : (c, k) = (c', k') := kcell_inj (congrArg Prod.fst h)
  have h2 : d = d' := congrArg (fun x : GSem nD τ sig × ℕ × Fin 3 => x.2.2) h
  rw [Prod.mk.injEq] at h1
  rw [h1.1, h1.2, h2]

def kToks : Finset (GSem nD τ sig × ℕ × Fin 3) := Finset.univ.map ⟨tokOf, tokOf_inj⟩

def u₀ : UU := (initOf (Pipeline.cells cfgs cellOf_inj) (Pipeline.launchToks cfgs cellOf_inj), initOf kCells kToks)

variable (X : Dev nD → Tab (Elt F))

/-- The tokens minted on device `c`. -/
def minted (c : Dev nD) : sProp 𝕄 :=
  bigSep Finset.univ fun i : Fin 52 => bigSep Finset.univ fun d : Fin 3 => dutyTok ER (kcell (c, i)) 0 d

/-- What the launch deals device `c`. -/
def G (c : Dev nD) : sProp 𝕄 :=
  iprop((bigSep Finset.univ fun i : Fin 52 => roundState ER (Rd X) (kcell (c, i)) 0)
    ∗ (bigSep Finset.univ fun i : Fin 52 => iprop(atPos ER (kcell (c, i)) 0 ∅ 0 ∗ reached ER (kcell (c, i)) 0)) ∗ minted c)

theorem mint : BI.own (ER (initOf kCells kToks)) ⊢ (|==> bigSep Finset.univ (G X) : sProp 𝕄) := by
  have hC (Φ : GSem nD τ sig → sProp 𝕄) : bigSep kCells Φ = bigSep Finset.univ fun c : Dev nD => bigSep Finset.univ fun i : Fin 52 => Φ (kcell (c, i)) := by
    unfold kCells; rw [bigSep_map, bigSep_univ_prod]; rfl
  have hT : bigSep kToks (fun x => (dutyTok ER x.1 x.2.1 x.2.2 : sProp 𝕄)) = bigSep Finset.univ fun c : Dev nD => minted c := by
    unfold kToks; rw [bigSep_map, bigSep_univ_prod]
    exact bigSep_congr fun c _ => by unfold minted; rw [bigSep_univ_prod]; rfl
  iintro H
  imod (Rounds.fund ER (Rd X) kCells kToks) $$ H with ⟨Hst, Hr, Hat, Htok⟩
  imodintro
  ihave Hst := (Entails.of_eq (hC fun g => roundState ER (Rd X) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The tokens each device pays with -/

theorem one_of (c : Dev nD) (i : Fin 52) (g : GSem nD τ sig) (h : kcell (c, i) = g) :
    (bigSep Finset.univ fun d : Fin 3 => dutyTok ER (kcell (c, i)) 0 d : sProp 𝕄) ⊢ dutyTok ER g 0 0 := by
  subst h
  exact bigSep_elim (Φ := fun d : Fin 3 => (dutyTok ER (kcell (c, i)) 0 d : sProp 𝕄)) (Finset.mem_univ 0)

/-- The tokens of device `c`'s own cells that are used. -/
def ownTok (c : Dev nD) : sProp 𝕄 :=
  iprop((bigSep Finset.univ fun e : Fin 3 => dutyTok ER (barC c) 0 e)
    ∗ bigSep Finset.univ fun p : Fin 3 => iprop(dutyTok ER (inC c p) 0 0 ∗ (bigSep Finset.univ fun t : Fin 7 => dutyTok ER (snC c p t) 0 0)
      ∗ bigSep Finset.univ fun t : Fin 7 => dutyTok ER (rcC c p t) 0 0))

theorem minted_own (c : Dev nD) : (minted c : sProp 𝕄) ⊢ ownTok c := by
  unfold minted ownTok
  rw [sep52]
  refine sep_mono_right (each fun p _ => ?_)
  iintro ⟨Hi, Hs, Hr, -⟩
  isplitl [Hi]; · iapply (one_of c (inn p) _ (kcell_inn c p)); iexact Hi
  isplitl [Hs]
  · iapply (each (s := Finset.univ) fun (t : Fin 7) _ => one_of c (sn p t) _ (kcell_sn c p t)); iexact Hs
  · iapply (each (s := Finset.univ) fun (t : Fin 7) _ => one_of c (rc p t) _ (kcell_rc c p t)); iexact Hr

/-- The tokens of the duties device `c` pays. -/
def payTok (c : Dev nD) : sProp 𝕄 :=
  iprop((bigSep Finset.univ fun e : Fin 3 => dutyTok ER (barC (prt e c)) 0 e)
    ∗ bigSep Finset.univ fun p : Fin 3 => iprop(dutyTok ER (inC c p) 0 0 ∗ bigSep Finset.univ fun t : Fin 7 => Tk c p t))

theorem dealt : (bigSep Finset.univ fun c : Dev nD => (ownTok c : sProp 𝕄)) ⊢ bigSep Finset.univ fun c : Dev nD => payTok c := by
  unfold ownTok payTok Tk
  simp only [bigSep_sep']
  rw [deal prt prt_prt (fun c e => (dutyTok ER (barC c) 0 e : sProp 𝕄)),
    deal₂ (fun p t c => peer c p t) (fun p t c => peer_peer c p t) (fun c p t => (dutyTok ER (rcC c p t) 0 0 : sProp 𝕄))]

/-! ## The cells' invariants -/

/-- The kernel's own cells, as the launch counts them. -/
abbrev osem (pk : Fin 3 × Fin 17) : SemLoc sig := .dma (ix pk)

theorem csem_ix : ∀ pk, csem (ix pk) = .dma (ix pk) := by decide

theorem ownSems0_eq (c : Dev nD) : (Pipeline.ownSems0 (Ix := Unit) (Name := ℕ) (U := UU) (Lvl := ℕ) (Val := Elt F) (τ := τ) osem c : sProp 𝕄)
    = bigSep Finset.univ fun p : Fin 3 => bigSep Finset.univ fun k : Fin 17 => semVal (kcell (c, ix (p, k))) 0 := by
  unfold Pipeline.ownSems0
  rw [bigSep_univ_prod]
  exact bigSep_congr fun p _ => bigSep_congr fun k _ => by unfold kcell; rw [csem_ix]

theorem unscopedSems0_eq (c : Dev nD) : (unscopedSems0 c : sProp 𝕄) = semVal (barC c) 0 := by
  unfold unscopedSems0; rw [bigSep_eq_bigSepL_of_eq [SemLoc.reg barS] (by decide) (by decide)]; rfl

theorem sems_eq (c : Dev nD) :
    iprop(Pipeline.ownSems0 (Ix := Unit) (Name := ℕ) (U := UU) (Lvl := ℕ) (Val := Elt F) (τ := τ) osem c ∗ unscopedSems0 c)
      ⊣⊢ (bigSep Finset.univ fun i : Fin 52 => semVal (kcell (c, i)) 0 : sProp 𝕄) := by
  rw [ownSems0_eq, unscopedSems0_eq, sep52_ix]
  exact Laws.sep_comm

theorem alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun i => iprop(∃ κ : ℕ, cellInv ER (Rd X) κ (kcell (c, i))))
          ∗ (bigSep Finset.univ fun i => iprop(atPos ER (kcell (c, i)) 0 ∅ 0 ∗ reached ER (kcell (c, i)) 0)) ∗ minted c) := by
  unfold G
  iintro ⟨Hos, Hus, Hst, Hat, Htok⟩
  ihave Hv := (sems_eq (F := F) c).1 $$ [Hos Hus]
  · isplitl [Hos]; · iexact Hos
    iexact Hus
  imod (show iprop((bigSep Finset.univ fun i : Fin 52 => semVal (kcell (c, i)) 0) ∗ bigSep Finset.univ fun i : Fin 52 => roundState ER (Rd X) (kcell (c, i)) 0)
      ⊢ (|={Set.univ}=> bigSep Finset.univ fun i => iprop(∃ κ : ℕ, cellInv ER (Rd X) κ (kcell (c, i))) : sProp 𝕄) from by
        rw [← bigSep_sep']
        exact (bigSep_mono fun i _ => (Rounds.body_intro ER (Rd X) (kcell (c, i))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- What every device knows of all cells. -/
def Recs (K : Dev nD × Fin 52 → ℕ) : sProp 𝕄 :=
  bigSep Finset.univ fun ck : Dev nD × Fin 52 => iprop(cellInv ER (Rd X) (K ck) (kcell ck) ∗ reached ER (kcell ck) 0)

instance Recs_persistent (K : Dev nD × Fin 52 → ℕ) : BI.Persistent (Recs X K) := by unfold Recs; infer_instance

/-- A device's cells' positions, and the tokens it pays with. -/
def Lin (c : Dev nD) : sProp 𝕄 := iprop((bigSep Finset.univ fun i : Fin 52 => atPos ER (kcell (c, i)) 0 ∅ 0) ∗ payTok c)

def G' (c : Dev nD) : sProp 𝕄 := iprop(∃ K, Recs X K ∗ Lin c)

theorem regroup :
    (bigSep Finset.univ fun c : Dev nD => iprop((bigSep Finset.univ fun i => iprop(∃ κ : ℕ, cellInv ER (Rd X) κ (kcell (c, i))))
          ∗ (bigSep Finset.univ fun i => iprop(atPos ER (kcell (c, i)) 0 ∅ 0 ∗ reached ER (kcell (c, i)) 0)) ∗ minted c) : sProp 𝕄)
      ⊢ bigSep Finset.univ (G' X) := by
  rw [bigSep_sep', bigSep_sep', ← bigSep_univ_prod (fun ck : Dev nD × Fin 52 => iprop(∃ κ : ℕ, cellInv ER (Rd X) κ (kcell ck))),
    bigSep_congr (s := Finset.univ) (fun (c : Dev nD) _ => bigSep_sep' Finset.univ (fun i : Fin 52 => (atPos ER (kcell (c, i)) 0 ∅ 0 : sProp 𝕄)) (fun i => reached ER (kcell (c, i)) 0)),
    bigSep_sep', ← bigSep_univ_prod (fun ck : Dev nD × Fin 52 => (reached ER (kcell ck) 0 : sProp 𝕄))]
  iintro ⟨HI, ⟨Hat, #HR⟩, Htok⟩
  ihave ⟨%K, #HI⟩ := (BI.bigSep_exists_pi Finset.univ (fun (ck : Dev nD × Fin 52) (κ : ℕ) => (cellInv ER (Rd X) κ (kcell ck) : sProp 𝕄))) $$ HI
  ihave Htok := ((each fun c _ => minted_own c).trans dealt) $$ Htok
  ihave #Hrec := (show iprop((bigSep Finset.univ fun ck : Dev nD × Fin 52 => cellInv ER (Rd X) (K ck) (kcell ck)) ∗ bigSep Finset.univ fun ck : Dev nD × Fin 52 => (reached ER (kcell ck) 0 : sProp 𝕄)) ⊢ Recs X K from
    Entails.of_eq (bigSep_sep' _ _ _).symm) $$ []
  · isplitr; · iexact HI
    iexact HR
  ihave Hl := (Entails.of_eq (bigSep_sep' Finset.univ (fun c : Dev nD => bigSep Finset.univ fun i : Fin 52 => (atPos ER (kcell (c, i)) 0 ∅ 0 : sProp 𝕄)) payTok).symm) $$ [Hat Htok]
  · isplitl [Hat]; · iexact Hat
    iexact Htok
  iapply (each_with (R := Recs X K) (Φ := fun c : Dev nD => Lin c) (Ψ := G' X) fun c _ => show iprop(Recs X K ∗ Lin c) ⊢ G' X c from by
    unfold G'; iintro H; iexists K; iexact H)
  isplitr; · iexact Hrec
  iexact Hl

/-- All devices' cells open together. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => alloc X c).trans (bigSep_fupd _ _)).trans (BI.fupd_mono (regroup X))

end Cert.AllReduce
-- ==== Proof.Start.lean ====
/-
# Start: the credits a device starts with, and its rights band by band

Each device may wait for what its partners owe it at launch: three units on its barrier, and each message's units.
-/
module

public import proofs.«01_k».proof.Proof.Ghost

@[expose] public section

noncomputable section

namespace Cert.AllReduce

open Cert.KernelIdeal Cert.KernelIdeal.Gen Cert.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is owed to a cell -/

theorem bar_ne (c d : Dev nD) (p : Fin 3) (t : Fin 7) : rcC d p t ≠ barC c := fun h => by
  have := congrArg Prod.snd h
  cases this

theorem bar_inj {c d : Dev nD} (h : barC c = barC d) : c = d := congrArg (fun g : GSem nD τ sig => g.1.1) h

theorem kd_of {c d : Dev nD} {p p' : Fin 3} {t t' : Fin 7} (h : rcC c p t = rcC d p' t') : c = d ∧ p = p' ∧ t = t' := by
  have h1 : c = d := congrArg (fun g : GSem nD τ sig => g.1.1) h
  have h2 : kd (.dma (rc p t)) = kd (.dma (rc p' t')) := congrArg (fun g : GSem nD τ sig => kd g.2) h
  rw [kd_rc, kd_rc] at h2
  exact ⟨h1, Kd.rcv.inj h2⟩

theorem add_at (A B : CellTallies nD τ sig Unit) (g : GSem nD τ sig) : (A + B) g () = A g () + B g () := by
  rw [Pi.add_apply, Finsupp.add_apply]

/-- A list of sends owes a message once for each time it is listed; -/
theorem owesL_rc (d c : Dev nD) (p : Fin 3) (t : Fin 7) : ∀ l : List (Fin 3 × Fin 7),
    owesL d l (rcC c p t) () = if d = peer c p t then l.count (p, t) * amt p t else 0
  | [] => by rw [List.count_nil, Nat.zero_mul, ite_self]; rfl
  | pt :: l => by
    rw [owesL, add_at, owesL_rc d c p t l, tallyAt_apply, List.count_cons]
    by_cases h : pt = (p, t)
    · subst h
      by_cases hd : d = peer c p t
      · subst hd
        rw [if_pos rfl, if_pos ⟨by rw [peer_peer], rfl⟩, if_pos rfl, beq_self_eq_true, if_pos rfl, Nat.add_mul, Nat.one_mul]
      · rw [if_neg hd, if_neg hd, if_neg (fun hh => hd (by rw [(kd_of hh.1).1, peer_peer]))]
    · rw [if_neg (c := rcC c p t = rcC (peer d pt.1 pt.2) pt.1 pt.2 ∧ () = ()) (fun hh => h (Prod.ext (kd_of hh.1).2.1.symm (kd_of hh.1).2.2.symm)), beq_false_of_ne h]
      simp
/-- and no unit of the barrier. -/
theorem owesL_bar (d c : Dev nD) (l : List (Fin 3 × Fin 7)) : owesL d l (barC c) () = 0 := by
  by_contra h
  obtain ⟨pt, -, e⟩ := owesL_pos (Nat.pos_of_ne_zero h)
  exact bar_ne _ _ _ _ e.symm

theorem tally_bar (d c : Dev nD) (e : Fin 3) : (tallyAt (barC (prt e d)) () 1 : CellTallies nD τ sig Unit) (barC c) () = if d = prt e c then 1 else 0 := by
  rw [tallyAt_apply]
  by_cases h : d = prt e c
  · subst h; rw [if_pos ⟨by rw [prt_prt], rfl⟩, if_pos rfl]
  · rw [if_neg h, if_neg (fun hh => h (by rw [bar_inj hh.1, prt_prt]))]

theorem tally_bar_rc (d c : Dev nD) (p : Fin 3) (t : Fin 7) : (tallyAt (barC d) () 1 : CellTallies nD τ sig Unit) (rcC c p t) () = 0 := by
  rw [tallyAt_apply, if_neg (fun hh => bar_ne _ _ _ _ hh.1)]

theorem owed_bar (d c : Dev nD) : O₀ d (barC c) () = (if d = prt 2 c then 1 else 0) + (if d = prt 1 c then 1 else 0) + (if d = prt 0 c then 1 else 0) := by
  unfold O₀ O₂ O₁
  rw [add_at, add_at, add_at, owesL_bar, tally_bar, tally_bar, tally_bar, Nat.zero_add]

theorem sends_once : ∀ pt, sends.count pt = 1 := by decide

theorem owed_rc (d c : Dev nD) (p : Fin 3) (t : Fin 7) : O₀ d (rcC c p t) () = if d = peer c p t then amt p t else 0 := by
  unfold O₀ O₂ O₁
  rw [add_at, add_at, add_at, owesL_rc, tally_bar_rc, tally_bar_rc, tally_bar_rc, sends_once, Nat.one_mul]
  rfl

theorem launch_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp

theorem launch_rc (c : Dev nD) (p : Fin 3) (t : Fin 7) :
    tallyOn (rcC c p t) (launchCredit (Pipeline.owing O₀) 0 (rcC c p t)) = (tallyAt (rcC c p t) () (amt p t) : CellTallies nD τ sig Unit) := by
  unfold tallyAt; refine congrArg _ (Finsupp.ext fun u => ?_); cases u
  rw [Pipeline.launchCredit_owing, Finsupp.single_eq_same, Finset.sum_congr rfl fun d _ => owed_rc d c p t]
  simp

/-- The credits device `c` starts with. -/
theorem creds (c : Dev nD) : (Pipeline.launchCred O₀ c : sProp 𝕄)
    ⊢ iprop(cred (tallyAt (barC c) () 3) ∗ bigSep Finset.univ fun p : Fin 3 => bigSep Finset.univ fun t : Fin 7 => Cr c (rc p t)) := by
  unfold Pipeline.launchCred
  refine BIBase.Entails.trans (bigSep_subset (t := Finset.univ.map ⟨csem, csem_inj⟩) (Finset.subset_univ _)) ?_
  rw [bigSep_map, sep52]
  refine BIBase.Entails.trans (Q := iprop(cred (tallyAt (barC c) () 3) ∗ _)) (Entails.of_eq (congrArg (fun x => iprop(cred x ∗ _)) (launch_bar c))) ?_
  refine sep_mono_right (each fun p _ => ?_)
  iintro ⟨-, -, Hr, -⟩
  iapply (each (s := Finset.univ)
    (Φ := fun t : Fin 7 => (cred (tallyOn ((c : Thread nD τ), csem (rc p t)) (launchCredit (Pipeline.owing O₀) 0 ((c : Thread nD τ), csem (rc p t)))) : sProp 𝕄))
    (Ψ := fun t => Cr c (rc p t)) fun t _ => Entails.of_eq (by
      rw [csem_rc, launch_rc]; unfold Cr; rw [kd_rc]; rfl))
  iexact Hr

/-! ## Band by band -/

/-- A band's rights: its local copy's, and its transfers'. -/
def Bt (c : Dev nD) (p : Fin 3) : sProp 𝕄 :=
  iprop((dutyTok ER (inC c p) 0 0 ∗ At c (inn p)) ∗ Tr c p 0 ∗ Tr c p 6 ∗ Tr c p 1 ∗ Tr c p 2 ∗ R3 c p)

/-- The two cells a band never uses, unopened. -/
def Un (c : Dev nD) (p : Fin 3) : sProp 𝕄 := iprop(At c (un p) ∗ At c (un' p))

theorem at_eq (c : Dev nD) {i : Fin 52} (h : csem i = .dma i) : (atPos ER (kcell (c, i)) 0 ∅ 0 : sProp 𝕄) = At c i := by
  unfold At kcell; rw [h]

theorem at52 (c : Dev nD) : (bigSep Finset.univ fun i : Fin 52 => atPos ER (kcell (c, i)) 0 ∅ 0 : sProp 𝕄)
    = iprop(atPos ER (barC c) 0 ∅ 0 ∗ bigSep Finset.univ fun p : Fin 3 => iprop(At c (inn p) ∗ (bigSep Finset.univ fun t : Fin 7 => At c (sn p t))
        ∗ (bigSep Finset.univ fun t : Fin 7 => At c (rc p t)) ∗ Un c p)) := by
  rw [sep52]
  unfold Un
  refine congrArg (fun x => iprop(atPos ER (barC c) 0 ∅ 0 ∗ x)) (bigSep_congr fun p _ => ?_)
  rw [at_eq c (csem_inn p), at_eq c (csem_un p), at_eq c (csem_un' p), bigSep_congr fun t _ => at_eq c (csem_sn p t),
    bigSep_congr fun t _ => at_eq c (csem_rc p t)]

theorem tr_all (c : Dev nD) (p : Fin 3) : (bigSep Finset.univ fun t : Fin 7 => Tr c p t : sProp 𝕄)
    = iprop((bigSep Finset.univ fun t : Fin 7 => Tk c p t) ∗ (bigSep Finset.univ fun t : Fin 7 => At c (sn p t))
        ∗ (bigSep Finset.univ fun t : Fin 7 => At c (rc p t)) ∗ bigSep Finset.univ fun t : Fin 7 => Cr c (rc p t)) := by
  unfold Tr Wr
  rw [bigSep_sep', bigSep_sep', bigSep_sep']

theorem band (c : Dev nD) (p : Fin 3) :
    iprop((At c (inn p) ∗ (bigSep Finset.univ fun t : Fin 7 => At c (sn p t)) ∗ (bigSep Finset.univ fun t : Fin 7 => At c (rc p t)) ∗ Un c p)
        ∗ (dutyTok ER (inC c p) 0 0 ∗ bigSep Finset.univ fun t : Fin 7 => Tk c p t) ∗ bigSep Finset.univ fun t : Fin 7 => Cr c (rc p t))
      ⊢ (iprop(Bt c p ∗ Un c p) : sProp 𝕄) := by
  iintro ⟨⟨Hi, Hs, Hr, Hu⟩, ⟨Hd, Hk⟩, Hc⟩
  ihave HT := (Entails.of_eq ((tr_all (F := F) c p).symm.trans (sep7 _))) $$ [Hs Hr Hk Hc]
  · isplitl [Hk]; · iexact Hk
    isplitl [Hs]; · iexact Hs
    isplitl [Hr]; · iexact Hr
    iexact Hc
  icases HT with ⟨T0, T1, T2, T3, T4, T5, T6⟩
  unfold Bt R3
  isplitr [Hu]
  · isplitl [Hd Hi]
    · isplitl [Hd]; · iexact Hd
      iexact Hi
    isplitl [T0]; · iexact T0
    isplitl [T6]; · iexact T6
    isplitl [T1]; · iexact T1
    isplitl [T2]; · iexact T2
    isplitl [T3]; · iexact T3
    isplitl [T4]; · iexact T4
    iexact T5
  iexact Hu

/-- All a device may do and wait for. -/
theorem rights (c : Dev nD) : iprop(Lin c ∗ Pipeline.launchCred O₀ c)
    ⊢ (iprop(BarR c ∗ (Bt c 0 ∗ Bt c 1 ∗ Bt c 2) ∗ bigSep Finset.univ fun p : Fin 3 => Un c p) : sProp 𝕄) := by
  unfold Lin payTok BarR
  rw [at52, sep3 (fun e : Fin 3 => (dutyTok ER (barC (prt e c)) 0 e : sProp 𝕄)), ← sep3 (fun p : Fin 3 => (Bt c p : sProp 𝕄))]
  iintro ⟨⟨⟨Hb, HA⟩, Ht, HD⟩, Hc⟩
  ihave ⟨Hcb, HC⟩ := (creds (F := F) c) $$ Hc
  isplitl [Hb Ht Hcb]
  · isplitl [Ht]; · iexact Ht
    isplitl [Hb]; · iexact Hb
    iexact Hcb
  ihave H := (each (s := Finset.univ) fun (p : Fin 3) _ => band (F := F) c p) $$ [HA HD HC]
  · simp only [bigSep_sep']
    isplitl [HA]; · iexact HA
    isplitl [HD]; · iexact HD
    iexact HC
  simp only [bigSep_sep']
  iexact H

end Cert.AllReduce
-- ==== Proof.Pieces.lean ====
/-
# Pieces: a device's buffers and their bands

The argument's and the result's buffer split into the three bands, each into its two halves; a receive buffer into its four parts.
After the run the pieces join again.
-/
module

public import proofs.«01_k».proof.Proof.Start

@[expose] public section

noncomputable section

namespace Cert.AllReduce

open Cert.KernelIdeal Cert.KernelIdeal.Gen Cert.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A whole buffer -/

theorem rows_all (H : Nat) : rowSet H 0 H = Finset.univ := by
  refine Finset.eq_univ_of_forall fun x => mem_rowSet.mpr ⟨Nat.zero_le _, ?_⟩
  rw [Nat.zero_add]; exact (x 0).isLt

section Whole
variable (c : Dev nD) {sp : Space} {H : Nat} (M : Memref sig .tc sp (RS H) .f32) (hM : M.view.set = Finset.univ)
include hM

theorem all_set : M.view.setOn (rowSet H 0 H) = Finset.univ := by rw [rows_all, View.setOn_univ, hM]

theorem any_whole : (ownAny c M 0 H : sProp 𝕄) = iprop(∃ f : Buf (Elt F) (M.view.loc (c : Thread nD τ)), (M.view.loc (c : Thread nD τ)) ↦{fullShare} f) := by
  unfold ownAny; rw [all_set M hM]

theorem own_whole (G : Tab (Elt F)) : (own c M fullShare 0 H G 0 : sProp 𝕄)
    = iprop(∃ f : Buf (Elt F) (M.view.loc (c : Thread nD τ)), ⌜∀ x, M.view.read (Elt F) f x = G (x 0 : Nat) (x 1 : Nat)⌝ ∗ (M.view.loc (c : Thread nD τ)) ↦{fullShare} f) := by
  unfold Rows.own; rw [all_set M hM, rows_all]
  simp only [Finset.mem_univ, true_implies, Nat.zero_add, Nat.sub_zero]

end Whole

/-! ## Bands -/

section Bands
variable (c : Dev nD) {sp : Space} (M : Memref sig .tc sp (RS 8192) .f32) (G : Tab (Elt F))

theorem own_cut {H : Nat} (M : Memref sig .tc sp (RS H) .f32) {a a₂ n n₁ n₂ g g₂ : Nat} (hn : n = n₁ + n₂) (ha : a₂ = a + n₁) (hg : g₂ = g + n₁) :
    (own c M fullShare a n G g : sProp 𝕄) ⊣⊢ iprop(own c M fullShare a n₁ G g ∗ own c M fullShare a₂ n₂ G g₂) := by
  subst hn ha hg
  exact ⟨own_split (c : Thread nD τ) M, own_join (c : Thread nD τ) M⟩

theorem any_cut {H : Nat} (M : Memref sig .tc sp (RS H) .f32) {a a₂ n n₁ n₂ : Nat} (hn : n = n₁ + n₂) (ha : a₂ = a + n₁) :
    (ownAny c M a n : sProp 𝕄) ⊣⊢ iprop(ownAny c M a n₁ ∗ ownAny c M a₂ n₂) := by
  subst hn ha
  exact ⟨ownAny_split (c : Thread nD τ) M, ownAny_join (c : Thread nD τ) M⟩

theorem bands : (own c M fullShare 0 8192 G 0 : sProp 𝕄) ⊣⊢ iprop(own c M fullShare (base 0) (8 * q8 0) G (base 0)
    ∗ own c M fullShare (base 1) (8 * q8 1) G (base 1) ∗ own c M fullShare (base 2) (8 * q8 2) G (base 2)) :=
  have h := own_cut (F := F) c G M (a := 0) (a₂ := base 1) (n := 8192) (n₁ := 8 * q8 0) (n₂ := 5440) (g := 0) (g₂ := base 1) (by decide) (by decide) (by decide)
  have h' := own_cut (F := F) c G M (a := base 1) (a₂ := base 2) (n := 5440) (n₁ := 8 * q8 1) (n₂ := 8 * q8 2) (g := base 1) (g₂ := base 2) (by decide) (by decide) (by decide)
  ⟨h.1.trans (sep_mono_right h'.1), BIBase.Entails.trans (sep_mono_right h'.2) h.2⟩

theorem any_bands : (ownAny c M 0 8192 : sProp 𝕄) ⊢ iprop(ownAny c M (base 0) (8 * q8 0)
    ∗ ownAny c M (base 1) (8 * q8 1) ∗ ownAny c M (base 2) (8 * q8 2)) :=
  have h := any_cut (F := F) c M (a := 0) (a₂ := base 1) (n := 8192) (n₁ := 8 * q8 0) (n₂ := 5440) (by decide) (by decide)
  have h' := any_cut (F := F) c M (a := base 1) (a₂ := base 2) (n := 5440) (n₁ := 8 * q8 1) (n₂ := 8 * q8 2) (by decide) (by decide)
  h.1.trans (sep_mono_right h'.1)

theorem eight_q (n : Nat) : 8 * n = 4 * n + 4 * n := by omega

theorem two_halves (p : Fin 3) : (own c M fullShare (base p) (8 * q8 p) G (base p) : sProp 𝕄)
    ⊣⊢ iprop(own c M fullShare (gw p c) (4 * q8 p) G (gw p c) ∗ own c M fullShare (xo p c) (4 * q8 p) G (xo p c)) :=
  own_two c G M (eight_q _) (by
    rw [xo_gw]
    rcases halves p c with ⟨-, h1, h2, -⟩ | ⟨-, h1, h2⟩
    exacts [.inl ⟨h1, h2, h1, h2⟩, .inr ⟨h1, h2, h1, h2⟩])

/-- A band of the argument, as the kernel takes it; -/
theorem x_band (p : Fin 3) : (own c M fullShare (base p) (8 * q8 p) G (base p) : sProp 𝕄)
    ⊣⊢ iprop(own c M fullShare (gw p c) (4 * q8 p) G (gw p c) ∗ own c M fullShare (xo p c) (2 * q8 p) G (xo p c)
      ∗ own c M fullShare (xo p c + 2 * q8 p) (2 * q8 p) G (xo p c + 2 * q8 p)) :=
  have h := own_two c G M (a := xo p c) (g := xo p c) (four_q (q8 p)) (.inl ⟨rfl, rfl, rfl, rfl⟩)
  ⟨(two_halves c M G p).1.trans (sep_mono_right h.1), BIBase.Entails.trans (sep_mono_right h.2) (two_halves c M G p).2⟩

/-- of the result, at the start. -/
theorem o_band (p : Fin 3) : (ownAny c M (base p) (8 * q8 p) : sProp 𝕄)
    ⊢ iprop(ownAny c M (base p) (4 * q8 p) ∗ ownAny c M (base p + 4 * q8 p) (4 * q8 p)) :=
  (any_two c M (eight_q _) (.inl ⟨rfl, rfl⟩)).1

end Bands

/-- A receive buffer's parts. -/
theorem r_band (c : Dev nD) (p : Fin 3) : (ownAny c (rM p) 0 (7 * q8 p) : sProp 𝕄) ⊣⊢ Rcv c p := by
  unfold Rcv
  have h1 := any_cut (F := F) c (rM p) (a := 0) (a₂ := 2 * q8 p) (n := 7 * q8 p) (n₁ := 2 * q8 p) (n₂ := 5 * q8 p) (by omega) (by omega)
  have h2 := any_cut (F := F) c (rM p) (a := 2 * q8 p) (a₂ := 4 * q8 p) (n := 5 * q8 p) (n₁ := 2 * q8 p) (n₂ := 3 * q8 p) (by omega) (by omega)
  have h3 := any_cut (F := F) c (rM p) (a := 4 * q8 p) (a₂ := 6 * q8 p) (n := 3 * q8 p) (n₁ := 2 * q8 p) (n₂ := q8 p) (by omega) (by omega)
  exact ⟨h1.1.trans (sep_mono_right (h2.1.trans (sep_mono_right h3.1))),
    BIBase.Entails.trans (sep_mono_right (BIBase.Entails.trans (sep_mono_right h3.2) h2.2)) h1.2⟩

/-! ## What a band leaves -/

/-- All of a band's cells closed. -/
def Cl (c : Dev nD) (p : Fin 3) : sProp 𝕄 :=
  iprop(Zr c (inn p) ∗ (bigSep Finset.univ fun t : Fin 7 => Zr c (sn p t)) ∗ (bigSep Finset.univ fun t : Fin 7 => Zr c (rc p t)) ∗ Zr c (un p) ∗ Zr c (un' p))

variable (X : Dev nD → Tab (Elt F)) (K : Dev nD × Fin 52 → ℕ)

/-- The unused cells close at zero. -/
theorem un_close (c : Dev nD) (p : Fin 3) : iprop(Env X K ∗ Un c p) ⊢ |={Set.univ}=> (iprop(Zr c (un p) ∗ Zr c (un' p)) : sProp 𝕄) := by
  have hd : ∀ i : DmaSem sig, kd (.dma i) = .none → ∀ r, 0 ≤ r → (Rd X).duties ((c : Thread nD τ), .dma i) r = ∅ := fun i hi r _ => by
    rcases Nat.eq_zero_or_pos r with rfl | h
    · rw [duties_at, hi]; rfl
    · exact duties_later X _ r h
  have hk : ∀ p, kd (.dma (un p)) = .none := by decide
  have hk' : ∀ p, kd (.dma (un' p)) = .none := by decide
  unfold Un At Zr
  iintro ⟨#He, H1, H2⟩
  ihave ⟨#Hi, -⟩ := (env_dma X K c (un p) (by revert p; decide)) $$ He
  ihave ⟨#Hj, -⟩ := (env_dma X K c (un' p) (by revert p; decide)) $$ He
  imod (Rounds.cell_close ER (Rd X) (Set.mem_univ (K (c, un p))) (fun h => h) (R := 0) (hd _ (hk p))) $$ [H1] with Hz
  · isplitr; · iexact Hi
    iexact H1
  imod (Rounds.cell_close ER (Rd X) (Set.mem_univ (K (c, un' p))) (fun h => h) (R := 0) (hd _ (hk' p))) $$ [H2] with Hz'
  · isplitr; · iexact Hj
    iexact H2
  imodintro
  isplitl [Hz]; · iexact Hz
  iexact Hz'

/-- A finished band: its result rows, the argument's rows as they were, its receive buffer, its cells closed. -/
theorem band_end (c : Dev nD) (p : Fin 3) : iprop(St15 X c p ∗ Zr c (un p) ∗ Zr c (un' p))
    ⊢ (iprop(own c oM fullShare (base p) (8 * q8 p) (OUT X) (base p) ∗ own c xM fullShare (base p) (8 * q8 p) (X c) (base p)
      ∗ ownAny c (rM p) 0 (7 * q8 p) ∗ Cl c p) : sProp 𝕄) := by
  unfold St15 D15 D14 D13 D12 D11 D10 D8 D7 D6 D5 D4 D3 D2 Cl
  rw [sep7, sep7]
  iintro ⟨⟨Ho', Ho, ⟨⟨⟨⟨⟨⟨⟨⟨⟨⟨⟨⟨⟨Hx, Hr0, Hi, Zr0⟩, Hr6, Zr6⟩, Hx0, Hx6, Zs0, Zs6⟩, Hr1, Zr1⟩, Zs1⟩, Hr2, Zr2⟩, Zs2⟩, Zr3⟩, Zs3⟩, Zr4⟩, Zs4⟩, Zr5⟩, Zs5⟩⟩, Hu, Hu'⟩
  isplitl [Ho Ho']
  · iapply (two_halves c oM (OUT X) p).2
    rw [xo_gw, ← peer5]
    isplitl [Ho]; · iexact Ho
    iexact Ho'
  isplitl [Hx Hx0 Hx6]
  · iapply (x_band c xM (X c) p).2
    isplitl [Hx]; · iexact Hx
    isplitl [Hx0]; · iexact Hx0
    iexact Hx6
  isplitl [Hr0 Hr6 Hr1 Hr2]
  · iapply (r_band c p).2
    unfold Rcv
    isplitl [Hr0]; · iexact Hr0
    isplitl [Hr6]; · iexact Hr6
    isplitl [Hr1]; · iexact Hr1
    iexact Hr2
  isplitl [Hi]; · iexact Hi
  isplitl [Zs0 Zs1 Zs2 Zs3 Zs4 Zs5 Zs6]
  · isplitl [Zs0]; · iexact Zs0
    isplitl [Zs1]; · iexact Zs1
    isplitl [Zs2]; · iexact Zs2
    isplitl [Zs3]; · iexact Zs3
    isplitl [Zs4]; · iexact Zs4
    isplitl [Zs5]; · iexact Zs5
    iexact Zs6
  isplitl [Zr0 Zr1 Zr2 Zr3 Zr4 Zr5 Zr6]
  · isplitl [Zr0]; · iexact Zr0
    isplitl [Zr1]; · iexact Zr1
    isplitl [Zr2]; · iexact Zr2
    isplitl [Zr3]; · iexact Zr3
    isplitl [Zr4]; · iexact Zr4
    isplitl [Zr5]; · iexact Zr5
    iexact Zr6
  isplitl [Hu]; · iexact Hu
  iexact Hu'

/-- All cells closed, as the launch counts them. -/
theorem cells_closed (c : Dev nD) : iprop(semVal (barC c) 0 ∗ bigSep Finset.univ fun p : Fin 3 => Cl c p)
    ⊢ (iprop(Pipeline.ownSems0 (Ix := Unit) (Name := ℕ) (U := UU) (Lvl := ℕ) (Val := Elt F) (τ := τ) osem c ∗ unscopedSems0 c) : sProp 𝕄) := by
  refine BIBase.Entails.trans ?_ (sems_eq c).2
  rw [sep52]
  refine Entails.of_eq (congrArg (fun x => iprop(semVal (barC c) 0 ∗ x)) (bigSep_congr fun p _ => ?_))
  have hz {i : Fin 52} (h : csem i = .dma i) : (semVal (kcell (c, i)) 0 : sProp 𝕄) = Zr c i := by unfold Zr kcell; rw [h]
  unfold Cl
  rw [hz (csem_inn p), hz (csem_un p), hz (csem_un' p), bigSep_congr fun t _ => hz (csem_sn p t), bigSep_congr fun t _ => hz (csem_rc p t)]

end Cert.AllReduce
-- ==== Proof.Launch.lean ====
/-
# Launch: the run of the whole kernel

The eight devices' bodies put together: every run ends, with the sum in each result, the argument as it was and all counters at zero.
-/
module

public import proofs.«01_k».proof.Proof.Pieces
public import Idealize.ShloMosaic.Lib.Pipeline.CollectiveSegs
public import Idealize.ShloMosaic.Lib.Pipeline.ValueKit.Geometry
public import Idealize.ShloMosaic.Lib.Pipeline.Quiescent

@[expose] public section

noncomputable section

namespace Cert.AllReduce

open Cert.KernelIdeal Cert.KernelIdeal.Gen Cert.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## Contents as tables -/

/-- The index of row `i`, column `j`. -/
def at2 (i j : Nat) : (RS 8192).Idx := fun
  | ⟨0, _⟩ => ⟨i % 8192, Nat.mod_lt _ (by decide)⟩
  | ⟨1, _⟩ => ⟨j % 1024, Nat.mod_lt _ (by decide)⟩

theorem at2_self (x : (RS 8192).Idx) : at2 (x 0 : Nat) (x 1 : Nat) = x := by
  funext a
  match a with
  | ⟨0, _⟩ => exact Fin.ext (Nat.mod_eq_of_lt (x 0).isLt)
  | ⟨1, _⟩ => exact Fin.ext (Nat.mod_eq_of_lt (x 1).isLt)

/-- The argument's rows on each device. -/
def Xt (c : Dev nD) : Tab (Elt F) := fun i j => m ((c : Thread nD τ).loc main_arg0) (at2 i j)

/-- The sum of all devices' arguments, as the kernel adds them. -/
def outAt : (RS 8192).Idx → Elt F .f32 := fun x => OUT (Xt m) (x 0 : Nat) (x 1 : Nat)

/-! ## The buffers as wholes -/

abbrev argPts (c : Dev nD) : sProp 𝕄 := iprop(((c : Thread nD τ).loc main_arg0) ↦{fullShare} m ((c : Thread nD τ).loc main_arg0))

theorem arg_own (c : Dev nD) : argPts m c ⊣⊢ (own c xM fullShare 0 8192 (Xt m c) 0 : sProp 𝕄) := by
  rw [own_whole c xM (View.set_whole _)]
  refine ⟨?_, ?_⟩
  · iintro H; iexists _
    isplitr
    rotate_left
    · iexact H
    · ipureintro; intro x; unfold Xt; rw [at2_self]; rfl
  · iintro ⟨%f, %hf, H⟩
    have e : f = m ((c : Thread nD τ).loc main_arg0) := funext fun x => by
      have := hf x; unfold Xt at this; rw [at2_self] at this; exact this
    subst e
    iexact H

abbrev stg (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

theorem stg_any (c : Dev nD) (Y : (cc0_stg0_0 : Ref sig .tc).ty.Contents (Elt F)) : stg c cc0_stg0_0 Y ⊢ (ownAny c oM 0 8192 : sProp 𝕄) := by
  rw [any_whole c oM (View.set_whole _)]
  iintro ⟨%f, -, H⟩; iexists f; iexact H

theorem stg_out (c : Dev nD) : (own c oM fullShare 0 8192 (OUT (Xt m)) 0 : sProp 𝕄) ⊢ stg c cc0_stg0_0 (outAt m) := by
  rw [own_whole c oM (View.set_whole _)]
  iintro ⟨%f, %hf, H⟩
  iexists f
  isplitr
  · ipureintro; exact funext fun x => hf x
  · iexact H

theorem scratch (c : Dev nD) : (Pipeline.scopedRest (Ix := Unit) (Name := ℕ) (U := UU) (Lvl := ℕ) (Val := Elt F) spec0 c : sProp 𝕄)
    = iprop(ownAny c (rM 0) 0 (7 * q8 0) ∗ ownAny c (rM 1) 0 (7 * q8 1) ∗ ownAny c (rM 2) 0 (7 * q8 2)) := by
  rw [scopedRest0_eq, any_whole c (rM 0) (View.set_whole _), any_whole c (rM 1) (View.set_whole _), any_whole c (rM 2) (View.set_whole _)]
  rfl

/-! ## The body's start and end -/

/-- What a device starts with, besides its scratch buffers. -/
def start (c : Dev nD) : sProp 𝕄 := iprop(G' (Xt m) c ∗ Pipeline.launchCred O₀ c ∗ levAts L lv ∗ argPts m c)

def Φ₀ (c : Dev nD) : sProp 𝕄 := iprop(start m c ∗ Pipeline.scopedRest (Ix := Unit) (Name := ℕ) (U := UU) (Lvl := ℕ) (Val := Elt F) spec0 c)

/-- What it ends with: the argument as it was, all its cells closed. -/
def Φ₁ (c : Dev nD) : sProp 𝕄 := iprop(argPts m c
  ∗ (Pipeline.ownSems0 (Ix := Unit) (Name := ℕ) (U := UU) (Lvl := ℕ) (Val := Elt F) (τ := τ) osem c ∗ unscopedSems0 c)
  ∗ Pipeline.scopedRest (Ix := Unit) (Name := ℕ) (U := UU) (Lvl := ℕ) (Val := Elt F) spec0 c)

/-- A band's rights and rows, put together. -/
theorem bd_intro (X : Dev nD → Tab (Elt F)) (c : Dev nD) (p : Fin 3) :
    iprop(Bt c p ∗ own c xM fullShare (base p) (8 * q8 p) (X c) (base p) ∗ ownAny c oM (base p) (8 * q8 p)) ⊢ (Bd X c p : sProp 𝕄) := by
  unfold Bt Bd
  iintro ⟨⟨Hi, HT⟩, Hx, Ho⟩
  ihave ⟨Hx, Hx0, Hx6⟩ := (x_band c xM (X c) p).1 $$ Hx
  ihave ⟨Ho, Hu⟩ := (o_band c oM p) $$ Ho
  isplitl [Hi]; · iexact Hi
  isplitl [Hx]; · iexact Hx
  isplitl [Hx0]; · iexact Hx0
  isplitl [Hx6]; · iexact Hx6
  isplitl [Ho]; · iexact Ho
  isplitl [Hu]; · iexact Hu
  iexact HT

theorem to_pre (c : Dev nD) (Y : (cc0_stg0_0 : Ref sig .tc).ty.Contents (Elt F)) :
    iprop(Φ₀ m c ∗ stg c cc0_stg0_0 Y) ⊢ (iprop(∃ K, Env (Xt m) K ∗ Pre (Xt m) c ∗ bigSep Finset.univ fun p : Fin 3 => Un c p) : sProp 𝕄) := by
  unfold Φ₀ start G' Pre Env Recs
  rw [scratch]
  iintro ⟨⟨⟨⟨%K, HR, HL⟩, Hc, Hlev, Hx⟩, Hr0, Hr1, Hr2⟩, Ho⟩
  ihave ⟨HB, ⟨T0, T1, T2⟩, HU⟩ := (rights (F := F) c) $$ [HL Hc]
  · isplitl [HL]; · iexact HL
    iexact Hc
  ihave ⟨X0, X1, X2⟩ := ((arg_own m c).1.trans (bands c xM (Xt m c)).1) $$ Hx
  ihave ⟨P0, P1, P2⟩ := ((stg_any c Y).trans (any_bands c oM)) $$ Ho
  iexists K
  isplitl [HR Hlev]
  · isplitl [HR]; · iexact HR
    iexact Hlev
  isplitr [HU]
  · isplitl [HB]; · iexact HB
    isplitl [Hr0 Hr1 Hr2]
    · isplitl [Hr0]; · iapply (r_band c 0).1; iexact Hr0
      isplitl [Hr1]; · iapply (r_band c 1).1; iexact Hr1
      iapply (r_band c 2).1; iexact Hr2
    isplitl [T0 X0 P0]
    · iapply (bd_intro (Xt m) c 0)
      isplitl [T0]; · iexact T0
      isplitl [X0]; · iexact X0
      iexact P0
    isplitl [T1 X1 P1]
    · iapply (bd_intro (Xt m) c 1)
      isplitl [T1]; · iexact T1
      isplitl [X1]; · iexact X1
      iexact P1
    iapply (bd_intro (Xt m) c 2)
    isplitl [T2]; · iexact T2
    isplitl [X2]; · iexact X2
    iexact P2
  iexact HU

theorem from_post (c : Dev nD) : iprop(Post (Xt m) c ∗ bigSep Finset.univ fun p : Fin 3 => iprop(Zr c (un p) ∗ Zr c (un' p)))
    ⊢ (iprop(Φ₁ m c ∗ stg c cc0_stg0_0 (outAt m)) : sProp 𝕄) := by
  unfold Φ₁ Post
  rw [scratch, ← sep3 (fun p : Fin 3 => (St15 (Xt m) c p : sProp 𝕄))]
  iintro ⟨⟨Hb, HS⟩, HU⟩
  ihave H := (each (s := Finset.univ) fun (p : Fin 3) _ => band_end (Xt m) c p) $$ [HS HU]
  · iapply (Entails.of_eq (bigSep_sep' Finset.univ (fun p : Fin 3 => (St15 (Xt m) c p : sProp 𝕄)) (fun p => iprop(Zr c (un p) ∗ Zr c (un' p)))).symm)
    isplitl [HS]; · iexact HS
    iexact HU
  simp only [bigSep_sep']
  icases H with ⟨Ho, Hx, Hr, Hc⟩
  ihave Ho := ((Entails.of_eq (sep3 _)).trans ((bands c oM (OUT (Xt m))).2.trans (stg_out m c))) $$ Ho
  ihave Hx := ((Entails.of_eq (sep3 _)).trans ((bands c xM (Xt m c)).2.trans (arg_own m c).2)) $$ Hx
  ihave Hr := (Entails.of_eq (sep3 _)) $$ Hr
  isplitr [Ho]
  · isplitl [Hx]; · iexact Hx
    isplitl [Hb Hc]
    · iapply (cells_closed (F := F) c)
      isplitl [Hb]; · iexact Hb
      iexact Hc
    iexact Hr
  iexact Ho

theorem un_all (X : Dev nD → Tab (Elt F)) (K : Dev nD × Fin 52 → ℕ) (c : Dev nD) : iprop(Env X K ∗ bigSep Finset.univ fun p : Fin 3 => Un c p)
    ⊢ |={Set.univ}=> (bigSep Finset.univ fun p : Fin 3 => iprop(Zr c (un p) ∗ Zr c (un' p)) : sProp 𝕄) :=
  (each_with fun p _ => un_close X K c p).trans (bigSep_fupd _ _)

/-- The whole body. -/
theorem whole_body (c : Dev nD) (Y : (cc0_stg0_0 : Ref sig .tc).ty.Contents (Elt F)) :
    iprop(Φ₀ m c ∗ Oo c (O₀ c) ∗ stg c cc0_stg0_0 Y)
      ⊢ WP c (bodyAt0 (F := F) t0_0) (fun _ => iprop(Φ₁ m c ∗ Oo c 0 ∗ stg c cc0_stg0_0 (outAt m))) := by
  rw [body_eq, WP, wp_deviceId]
  iintro ⟨H, HO, Hs⟩
  ihave ⟨%K, #He, Hp, HU⟩ := (to_pre m c Y) $$ [H Hs]
  · isplitl [H]; · iexact H
    iexact Hs
  imod (un_all (Xt m) K c) $$ [HU] with HU
  · isplitr; · iexact He
    iexact HU
  iapply (kernel_spec (Xt m) K c) $$ [HO Hp]
  · isplitr; · iexact He
    isplitl [HO]; · iexact HO
    iexact Hp
  iintro ⟨HO, Hp⟩
  ihave ⟨Hp, Hs⟩ := (from_post m c) $$ [Hp HU]
  · isplitl [Hp]; · iexact Hp
    iexact HU
  isplitl [Hp]; · iexact Hp
  isplitl [HO]; · iexact HO
  iexact Hs

/-! ## The launch -/

/-- What the run is told of the kernel: its state before and after, what its result buffer ends with, and what it owes. -/
def dats (_ : Fin 1) (c : Dev nD) : Dat τ (Elt F) Unit ℕ UU ℕ cfg0 c where
  A w := m ((cfg0.win w).arr.view.loc (c : Thread nD τ))
  after w _ := match w with
    | ⟨0, _⟩ => outAt m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄) = stg c b Y := by
  unfold owns; simp only [Memref.view_whole, View.read_whole, View.set_whole]

def bodyPre (c : Dev nD) : sProp 𝕄 := iprop(Φ₀ m c ∗ (dats m 0 c).owesAt () t0_0.castSucc ∗ ∃ d, stg c cc0_stg0_0 ((dats m 0 c).before (0 : Fin 1) t0_0 d))
def bodyPost (c : Dev nD) : sProp 𝕄 := iprop(Φ₁ m c ∗ (dats m 0 c).owesAt () t0_0.succ ∗ stg c cc0_stg0_0 (outAt m))

set_option maxRecDepth 16000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ WP c (bodyAt0 (F := F) t0_0) (fun _ => bodyPost m c)
  unfold bodyPre Dat.owesAt Pipeline.owesWithin
  rw [show (dats m 0 c).owed t0_0.castSucc = O₀ c from rfl]
  iintro ⟨H, ⟨%W, -, HO⟩, %d, Hs⟩
  iapply ((whole_body m c ((dats m 0 c).before (0 : Fin 1) t0_0 d)).trans (wp_mono frame (wpE (defs₀ (F := F)) 𝒱₀ (c : Thread nD τ) none) Set.univ fun _ => show iprop(Φ₁ m c ∗ Oo c 0 ∗ stg c cc0_stg0_0 (outAt m)) ⊢ bodyPost m c from by
    unfold bodyPost Dat.owesAt Pipeline.owesWithin Oo
    rw [show (dats m 0 c).owed t0_0.succ = 0 from rfl]
    iintro ⟨H, ⟨%W, HO⟩, Hs⟩
    isplitl [H]; · iexact H
    isplitl [HO]
    · iexists W
      isplitr; · ipureintro; exact fun _ _ => Or.inl trivial
      iexact HO
    iexact Hs))
  isplitl [H]; · iexact H
  isplitl [HO]; · unfold Oo; iexists W; iexact HO
  iexact Hs

theorem ownSemFacts : Pipeline.OwnSemFacts cfg0.spec osem := by decide

theorem share_eq (c : Dev nD) (w : Fin cfg0.W) : (dats m 0 c).share w = fullShare := by unfold Dat.share; split <;> rfl

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait₀ c _ (by fin_cases w <;> fin_cases s <;> decide)
    · show _ ⊢ MayWait _ _ _ 0
      rw [MayWait_zero]; iintro -; iempintro

set_option maxRecDepth 16000 in
/-- Every run of the eight devices ends, each result holding the sum, each argument as it was, all counters at zero. -/
theorem run_main : θ_run defs (onTc (τ := τ) (main (F := F))) (s₀ m ρ) (fun r =>
    (∀ c : Dev nD, r.2.mem ((c : Thread nD τ).loc main_v1) = (dats m 0 c).arrAt (0 : Fin 1) cfg0.N
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (Xt m)) (G' := G' (Xt m)) (u₀ := u₀)
    (hu₀ := by
      unfold u₀
      iintro Hu
      ihave ⟨HP, HX⟩ := (ownU_pair _ _) $$ Hu
      imod (mint (Xt m)) $$ HX with HG
      imodintro
      isplitl [HP]; · iexact HP
      iexact HG)
    (hglob := glob (Xt m))
    (hA := fun _ _ => rfl) (hpf := fun _ k => k.elim0)
    (X := start m) (Y := fun c => iprop(unscopedSems0 c ∗ argPts m c)) (Z := fun _ => iprop(emp))
    (hX := fun c => by
      rw [Pipeline.unscopedRestP_none, unscopedRest0_eq]
      unfold start
      iintro ⟨Hx, Hlev, Hcr, -, HG⟩
      imodintro
      isplitl
      · isplitl [HG]; · iexact HG
        isplitl [Hcr]; · iexact Hcr
        isplitl [Hlev]; · iexact Hlev
        iexact Hx
      · iempintro)
    (hin := fun c => by
      rw [show (dats m 0 c).Φ 0 = Φ₀ m c from rfl]
      unfold Φ₀
      iintro ⟨Hs, -, Hr⟩
      isplitl [Hs]; · iexact Hs
      iexact Hr)
    (hout := fun c => by
      rw [show (dats m 0 c).Φ (Fin.last cfg0.N) = Φ₁ m c from rfl]
      unfold Φ₁
      iintro ⟨Hx, ⟨Ho, Hu⟩, Hr⟩
      isplitl [Hx Hu]
      · isplitl [Hu]; · iexact Hu
        iexact Hx
      isplitl [Ho]; · iexact Ho
      iexact Hr)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      iintro ⟨⟨Hu, Hx⟩, -, HSI⟩
      ihave %h := (tcUnscoped_read c s') $$ [Hu HSI]
      · isplitl [Hu]; · iexact Hu
        iexact HSI
      icombine HSI Hx gives %hx
      imodintro
      isplitr
      · ipureintro; exact ⟨Buf.eq_of_forall_mem_univ hx, h⟩
      iexact HSI)
    (hQ := fun _ h hs => ⟨fun c => ⟨(h c).1 0, (h c).2.2.1⟩, sem_eq_zero hs fun c => (h c).2.2.2⟩)

theorem result_eq (c : Dev nD) : (dats m 0 c).arrAt (0 : Fin 1) cfg0.N = outAt m := by
  refine (dats m 0 c).arrAt_eq_of_after_last (0 : Fin 1) t0_0 (by decide +kernel) _ fun j => ?_
  rfl

end Cert.AllReduce
-- ==== Proof.Value.lean ====
/-
# Value: the sum over the extended reals

Over the extended reals the three exchanges' sums are the sum over the eight devices, whatever the band and the device
that finishes the row, and so is the reference's sum of the eight row blocks.
-/
module

public import proofs.«01_k».proof.Proof.Launch
public import proofs.«01_k».proof.Proof.Gen.ReferenceIdeal.Run
public import Idealize.ShloMosaic.Lib.Layout
public import Idealize.ShloMosaic.PureOps.Ideal.Laws
public import Idealize.ShloMosaic.Lib.Pipeline.Value

@[expose] public section

noncomputable section

namespace Cert.AllReduce

open Cert.KernelIdeal Cert.KernelIdeal.Gen Cert.Rows
open Idealize.ShloMosaic Idealize.ShloMosaic.TcCoe
open Idealize.SL.Sem

/-! ## The kernel's side -/

/-- The bands' eighths are the multiples of an eighth: each belongs to some device. -/
theorem eighth : ∀ (p : Fin 3) (k : Fin 8), ∃ c : Dev nD, go p c = base p + k.val * q8 p := by decide +kernel

/-- Within a band, every row is finished by some device. -/
theorem band_row (p : Fin 3) (r : Nat) (h1 : base p ≤ r) (h2 : r < base p + 8 * q8 p) : ∃ c : Dev nD, Fin8 r (p, c) := by
  have hq : 0 < q8 p := (by decide : ∀ p : Fin 3, 0 < q8 p) p
  have hk : (r - base p) / q8 p < 8 := Nat.div_lt_of_lt_mul (by rw [Nat.mul_comm]; omega)
  obtain ⟨c, hc⟩ := eighth p ⟨(r - base p) / q8 p, hk⟩
  have e : (r - base p) / q8 p * q8 p + (r - base p) % q8 p = r - base p := by rw [Nat.mul_comm]; exact Nat.div_add_mod _ _
  have l := Nat.mod_lt (r - base p) hq
  simp only at hc
  exact ⟨c, by simp only [hc]; omega, by simp only [hc]; omega⟩

/-- Every row of the result is finished by some device, in some band. -/
theorem covered (r : Nat) (hr : r < 8192) : ∃ pc : Fin 3 × Dev nD, Fin8 r pc := by
  have b0 : base 0 = 0 := rfl
  have b1 : base 1 = 2752 := rfl
  have b2 : base 2 = 5504 := rfl
  have e0 : q8 0 = 344 := rfl
  have e1 : q8 1 = 344 := rfl
  have e2 : q8 2 = 336 := rfl
  by_cases h1 : r < 2752
  · obtain ⟨c, h⟩ := band_row 0 r (by omega) (by omega)
    exact ⟨_, h⟩
  · by_cases h2 : r < 5504
    · obtain ⟨c, h⟩ := band_row 1 r (by omega) (by omega)
      exact ⟨_, h⟩
    · obtain ⟨c, h⟩ := band_row 2 r (by omega) (by omega)
      exact ⟨_, h⟩

/-- The devices whose values reach device `c` in band `p`, in the order its sums take them. -/
def reached (p : Fin 3) (c : Dev nD) : List (Dev nD) :=
  [c, prt p c, prt (p + 1) c, prt p (prt (p + 1) c),
    prt (p + 2) c, prt p (prt (p + 2) c), prt (p + 1) (prt (p + 2) c), prt p (prt (p + 1) (prt (p + 2) c))]

theorem reached_nodup : ∀ (p : Fin 3) (c : Dev nD), (reached p c).Nodup := by decide +kernel

/-- They are all eight. -/
theorem reached_all : ∀ (p : Fin 3) (c : Dev nD), (reached p c).toFinset = Finset.univ := by decide +kernel

/-- After three exchanges a device holds the sum over all devices. -/
theorem red_sum (X : Dev nD → Tab (Elt Ideal)) (p : Fin 3) (c : Dev nD) (r j : Nat) :
    red X p 3 c r j = Finset.sum (M := EReal) Finset.univ fun d : Dev nD => X d r j := by
  rw [← reached_all p c, List.sum_toFinset _ (reached_nodup p c)]
  simp only [red]
  show ((X c r j + X (prt p c) r j) + (X (prt (p + 1) c) r j + X (prt p (prt (p + 1) c)) r j)
    + ((X (prt (p + 2) c) r j + X (prt p (prt (p + 2) c)) r j)
      + (X (prt (p + 1) (prt (p + 2) c)) r j + X (prt p (prt (p + 1) (prt (p + 2) c))) r j)) : EReal) = _
  simp only [reached, List.map_cons, List.map_nil, List.sum_cons, List.sum_nil, add_zero, add_assoc]

/-- The kernel's result at an index: the sum of the eight devices' values there. -/
theorem outAt_sum (m : (ℓ : Loc nD τ sig) → Buf (Elt Ideal) ℓ) (x : (RS 8192).Idx) :
    outAt m x = Finset.sum (M := EReal) Finset.univ fun d : Dev nD => m ((d : Thread nD τ).loc main_arg0) x := by
  obtain ⟨⟨p, c⟩, h1, h2⟩ := covered (x 0 : Nat) (x 0).isLt
  unfold outAt
  rw [OUT_eq _ p c _ _ h1 h2, red_sum]
  refine Finset.sum_congr rfl fun d _ => ?_
  unfold Xt
  rw [at2_self]

end Cert.AllReduce

/-! ## The reference's side -/

namespace Cert.RefSum

open Cert.ReferenceIdeal Cert.ReferenceIdeal.Gen
open Idealize.ShloMosaic

/-- The reference's result: its argument as eight blocks of rows, summed. -/
abbrev total (x : S65536x1024.Idx → Ideal .f32) : S8192x1024.Idx → Ideal .f32 :=
  Host.reduceAdd (F := Ideal) (shapeCast S8x8192x1024 x shapeCasts_S65536x1024_S8x8192x1024) (constant S_ .f32 0x00000000#32)
    reducesTo_S8x8192x1024_S8192x1024_d0 h_S_

/-- The sum's axis, as a one-axis reduction: at `j` it runs over the indices with `j` behind the block's number. -/
theorem along : S8x8192x1024.Reduces [0] S8192x1024 := by decide

/-- The reshape at block `k`, index `j`, is block `k` of the argument at `j`. -/
theorem block_read (x : S65536x1024.Idx → Ideal .f32) (k : Fin 8) (j : S8192x1024.Idx) :
    shapeCast S8x8192x1024 x shapeCasts_S65536x1024_S8x8192x1024 (along.lift j k)
      = Layout.block ⟨2, ![8192, 1024]⟩ ⟨2, ![65536, 1024]⟩ 0 8 k x (by decide) j := by
  refine shapeCast_apply x _ _ _ ?_
  rw [Shape.rowMajor_val_two, Shape.rowMajor_val_three]
  rfl

/-- The reference's result at `j` is the sum of its argument's eight blocks there. -/
theorem total_apply (x : S65536x1024.Idx → Ideal .f32) (j : S8192x1024.Idx) :
    total x j = Finset.sum (M := EReal) Finset.univ fun k : Fin 8 => Layout.block ⟨2, ![8192, 1024]⟩ ⟨2, ![65536, 1024]⟩ 0 8 k x (by decide) j := by
  refine (Ideal.hostReduceAdd_single reducesTo_S8x8192x1024_S8192x1024_d0 along _ _ j).trans ?_
  refine (congrArg (· + _) (Ideal.ofBits_zero_f32)).trans ((zero_add _).trans ?_)
  exact Finset.sum_congr rfl fun k _ => block_read x k j

end Cert.RefSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem Cert.AllReduce

/-- The run of `Launch.lean` less its results, at any float values: the argument kept, every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem (c.tc.loc Cert.KernelIdeal.main_arg0) = m (c.tc.loc Cert.KernelIdeal.main_arg0))
      ∧ r.2.sem = fun _ => 0) :=
  (θ_run Cert.KernelIdeal.defs _ _).mono (fun _ h => ⟨fun c => (h.1 c).2, h.2⟩) (run_main m ρ)

/-- The kernel's body table is its ideal form's: one label, the same body. -/
theorem table_eq {F : FTy → Type} [FloatOps F] : Cert.Kernel.defs₀ (F := F) = Cert.KernelIdeal.defs₀ (F := F) := by
  unfold Cert.Kernel.defs₀ Cert.KernelIdeal.defs₀
  congr 1
  funext l a
  match l, a with
  | 0, (t, s) => rfl

/-- So are its definitions. -/
theorem program_eq {F : FTy → Type} [FloatOps F] : Cert.Kernel.defs (F := F) = Cert.KernelIdeal.defs (F := F) :=
  congrArg (Pipeline.defs Cert.Kernel.pcfgs) table_eq

/-- The kernel at bit patterns: its program is the ideal form's, word for word. -/
theorem frame_kernel : Cert.quiescent_Kernel := fun m ρ _ => by
  rw [program_eq]
  exact frame_any (F := Bits) m ρ

/-- The kernel at the extended reals. -/
theorem frame_ideal : Cert.quiescent_KernelIdeal := fun m ρ _ => frame_any (F := Ideal) m ρ

/-- The reference has no semaphores, so its run is its frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's program is its ideal form, operation for operation. -/
theorem preserves : Cert.preserves_Kernel_KernelIdeal := trivial

/-- On every device the kernel's result is the reference's: index by index, both are the sum of the eight devices' blocks. -/
theorem algebraic : Cert.algebraic_KernelIdeal_ReferenceIdeal := fun m ρ m' ρ' _ hm =>
  have e : outAt m = Cert.RefSum.total (m' ((0 : Dev Cert.ReferenceIdeal.nD).tc.loc Cert.ReferenceIdeal.main_arg0)) := funext fun x =>
    (outAt_sum m x).trans ((Finset.sum_congr (M := EReal) rfl fun d _ => congrFun (hm d) x).trans (Cert.RefSum.total_apply _ x).symm)
  ⟨Cert.RefSum.total (m' ((0 : Dev Cert.ReferenceIdeal.nD).tc.loc Cert.ReferenceIdeal.main_arg0)),
    (θ_run Cert.KernelIdeal.defs _ _).mono (fun _ h c => ⟨(h.1 c).1.trans ((result_eq m c).trans e), (h.1 c).2⟩)
      (run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, preserves, algebraic⟩

end Cert.Proof

end
